-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S4x768x1024 : Shape := ⟨3, ![4, 768, 1024]⟩
abbrev S768x159 : Shape := ⟨2, ![768, 159]⟩
abbrev S159 : Shape := ⟨1, ![159]⟩
abbrev S_ : Shape := ⟨0, ![]⟩

class Facts : Prop where
  bcast_S_S4x768x1024 : S_.BroadcastsInDim S4x768x1024 (![] : Fin 0 → Fin S4x768x1024.rank)
  reducesTo_S4x768x1024_S_d0_1_2 : S4x768x1024.ReducesTo [0, 1, 2] S_
  h_S_ : 0 < S_.numel

variable [Facts]

def fn {F : FTy → Type} [FloatOps F] (main_arg0 : FVec F S4x768x1024 .f32) (main_arg1 : FVec F S768x159 .f32) (main_arg2 : FVec F S159 .f32) (main_arg3 : FVec F S159 .f32) : IVec S_ 1 :=
  let main_v0 : FVec F S4x768x1024 .f32 := Host.absf main_arg0
  let main_cst : FVec F S_ .f32 := constant S_ .f32 0x7F800000#32
  let main_v1 : FVec F S4x768x1024 .f32 := broadcastInDim S4x768x1024 ![] bcast_S_S4x768x1024 main_cst
  let main_v2 : IVec S4x768x1024 1 := cmpf .olt main_v0 main_v1
  let main_c : IVec S_ 1 := constantI S_ 1 1#1
  let main_v3 : IVec S_ 1 := (fun x v => Host.reduce IntOp.andi x v reducesTo_S4x768x1024_S_d0_1_2 h_S_) main_v2 main_c
  main_v3
-- ==== Kernel.lean ====
abbrev S4x768x1024 : Shape := ⟨3, ![4, 768, 1024]⟩
abbrev S768x159 : Shape := ⟨2, ![768, 159]⟩
abbrev S159 : Shape := ⟨1, ![159]⟩
abbrev S4x1024x768 : Shape := ⟨3, ![4, 1024, 768]⟩
abbrev S4x1024x159 : Shape := ⟨3, ![4, 1024, 159]⟩
abbrev S1x1024x768 : Shape := ⟨3, ![1, 1024, 768]⟩
abbrev S1x1024x159 : Shape := ⟨3, ![1, 1024, 159]⟩
abbrev S1024x768 : Shape := ⟨2, ![1024, 768]⟩
abbrev S1024 : Shape := ⟨1, ![1024]⟩
abbrev S768x1024 : Shape := ⟨2, ![768, 1024]⟩
abbrev S1024x1024 : Shape := ⟨2, ![1024, 1024]⟩
abbrev S1024x1 : Shape := ⟨2, ![1024, 1]⟩
abbrev S1x1024 : Shape := ⟨2, ![1, 1024]⟩
abbrev S1024x159 : Shape := ⟨2, ![1024, 159]⟩
abbrev S4x159x1024 : Shape := ⟨3, ![4, 159, 1024]⟩
abbrev S159x1 : Shape := ⟨2, ![159, 1]⟩
abbrev S1x159x1 : Shape := ⟨3, ![1, 159, 1]⟩
abbrev S4x159x1024x1 : Shape := ⟨4, ![4, 159, 1024, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x768x1024, .f32⟩
  | .hbm, ⟨1, _⟩ => ⟨S768x159, .f32⟩
  | .hbm, ⟨2, _⟩ => ⟨S159, .f32⟩
  | .hbm, ⟨3, _⟩ => ⟨S159, .f32⟩
  | .hbm, ⟨4, _⟩ => ⟨S4x1024x768, .f32⟩
  | .hbm, ⟨5, _⟩ => ⟨S4x1024x159, .f32⟩
  | .hbm, ⟨6, _⟩ => ⟨S4x159x1024, .f32⟩
  | .hbm, ⟨7, _⟩ => ⟨S159x1, .f32⟩
  | .hbm, ⟨8, _⟩ => ⟨S159x1, .f32⟩
  | .hbm, ⟨9, _⟩ => ⟨S4x159x1024, .f32⟩
  | .hbm, ⟨10, _⟩ => ⟨S4x159x1024x1, .f32⟩
  | .local _ .vmem, ⟨0, _⟩ => ⟨S1x1024x768, .f32⟩
  | .local _ .vmem, ⟨1, _⟩ => ⟨S1x1024x768, .f32⟩
  | .local _ .vmem, ⟨2, _⟩ => ⟨S768x159, .f32⟩
  | .local _ .vmem, ⟨3, _⟩ => ⟨S1x1024x159, .f32⟩
  | .local _ .vmem, ⟨4, _⟩ => ⟨S1x1024x159, .f32⟩
  | .local _ .vmem, ⟨5, _⟩ => ⟨S4x159x1024, .f32⟩
  | .local _ .vmem, ⟨6, _⟩ => ⟨S159x1, .f32⟩
  | .local _ .vmem, ⟨7, _⟩ => ⟨S159x1, .f32⟩
  | .local _ .vmem, ⟨8, _⟩ => ⟨S4x159x1024, .f32⟩
  | _, _ => ⟨S4x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x159 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x159 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S4x159x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S159x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S159x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x159x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S4x768x1024 : Shape := ⟨3, ![4, 768, 1024]⟩
abbrev S768x159 : Shape := ⟨2, ![768, 159]⟩
abbrev S159 : Shape := ⟨1, ![159]⟩
abbrev S4x1024x768 : Shape := ⟨3, ![4, 1024, 768]⟩
abbrev S1x1024x768 : Shape := ⟨3, ![1, 1024, 768]⟩
abbrev S1024x768 : Shape := ⟨2, ![1024, 768]⟩
abbrev S768x1024 : Shape := ⟨2, ![768, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x2 : Shape := ⟨2, ![1024, 2]⟩
abbrev S1024x3 : Shape := ⟨2, ![1024, 3]⟩
abbrev S3072 : Shape := ⟨1, ![3072]⟩
abbrev S3072x1 : Shape := ⟨2, ![3072, 1]⟩
abbrev S3072x2 : Shape := ⟨2, ![3072, 2]⟩
abbrev S1x1024x1024 : Shape := ⟨3, ![1, 1024, 1024]⟩
abbrev S8x1024x1024 : Shape := ⟨3, ![8, 1024, 1024]⟩
abbrev S1x1024x1 : Shape := ⟨3, ![1, 1024, 1]⟩
abbrev S8x1x1 : Shape := ⟨3, ![8, 1, 1]⟩
abbrev S8x1024x1 : Shape := ⟨3, ![8, 1024, 1]⟩
abbrev S8x1x1024 : Shape := ⟨3, ![8, 1, 1024]⟩
abbrev S1024x159 : Shape := ⟨2, ![1024, 159]⟩
abbrev S4096x159 : Shape := ⟨2, ![4096, 159]⟩
abbrev S4x159x1024x1 : Shape := ⟨4, ![4, 159, 1024, 1]⟩
abbrev S1x159x1x1 : Shape := ⟨4, ![1, 159, 1, 1]⟩

abbrev nBuf : Space → Nat
  | .hbm => 511
  | .vmem => 0
  | .smem => 0
  | _ => 0

abbrev hbmTy0_0 (i : Nat) : BufTy := match i % 128 with
  | 0 => ⟨S4x768x1024, .f32⟩
  | 1 => ⟨S768x159, .f32⟩
  | 2 => ⟨S159, .f32⟩
  | 3 => ⟨S159, .f32⟩
  | 4 => ⟨S4x1024x768, .f32⟩
  | 5 => ⟨S1x1024x768, .f32⟩
  | 6 => ⟨S1024x768, .f32⟩
  | 7 => ⟨S768x1024, .f32⟩
  | 8 => ⟨S1024x1024, .f32⟩
  | 9 => ⟨S_, .f32⟩
  | 10 => ⟨S1024x1024, .f32⟩
  | 11 => ⟨S1024x1024, .f32⟩
  | 12 => ⟨S1024x768, .f32⟩
  | 13 => ⟨S_, .f32⟩
  | 14 => ⟨S1024, .f32⟩
  | 15 => ⟨S1024x1, .f32⟩
  | 16 => ⟨S1024x1024, .f32⟩
  | 17 => ⟨S1024x1024, .f32⟩
  | 18 => ⟨S1x1024, .f32⟩
  | 19 => ⟨S1024x1024, .f32⟩
  | 20 => ⟨S1024x1024, .f32⟩
  | 21 => ⟨S1024x1024, .f32⟩
  | 22 => ⟨S1024x2, .f32⟩
  | 23 => ⟨S1024x2, .i32⟩
  | 24 => ⟨S1024, .i32⟩
  | 25 => ⟨S1024x1, .i32⟩
  | 26 => ⟨S1024x3, .i32⟩
  | 27 => ⟨S3072, .i32⟩
  | 28 => ⟨S1024, .i32⟩
  | 29 => ⟨S1024x3, .i32⟩
  | 30 => ⟨S3072, .i32⟩
  | 31 => ⟨S_, .f32⟩
  | 32 => ⟨S1024x1024, .f32⟩
  | 33 => ⟨S_, .i32⟩
  | 34 => ⟨S3072, .i32⟩
  | 35 => ⟨S3072, .i1⟩
  | 36 => ⟨S_, .i32⟩
  | 37 => ⟨S3072, .i32⟩
  | 38 => ⟨S3072, .i32⟩
  | 39 => ⟨S3072, .i32⟩
  | 40 => ⟨S_, .i32⟩
  | 41 => ⟨S3072, .i32⟩
  | 42 => ⟨S3072, .i1⟩
  | 43 => ⟨S_, .i32⟩
  | 44 => ⟨S3072, .i32⟩
  | 45 => ⟨S3072, .i32⟩
  | 46 => ⟨S3072, .i32⟩
  | 47 => ⟨S3072x1, .i32⟩
  | 48 => ⟨S3072x1, .i32⟩
  | 49 => ⟨S3072x2, .i32⟩
  | 50 => ⟨S_, .f32⟩
  | 51 => ⟨S3072, .f32⟩
  | 52 => ⟨S1024x1024, .f32⟩
  | 53 => ⟨S1x1024x768, .f32⟩
  | 54 => ⟨S1024x768, .f32⟩
  | 55 => ⟨S768x1024, .f32⟩
  | 56 => ⟨S1024x1024, .f32⟩
  | 57 => ⟨S_, .f32⟩
  | 58 => ⟨S1024x1024, .f32⟩
  | 59 => ⟨S1024x1024, .f32⟩
  | 60 => ⟨S1024x768, .f32⟩
  | 61 => ⟨S_, .f32⟩
  | 62 => ⟨S1024, .f32⟩
  | 63 => ⟨S1024x1, .f32⟩
  | 64 => ⟨S1024x1024, .f32⟩
  | 65 => ⟨S1024x1024, .f32⟩
  | 66 => ⟨S1x1024, .f32⟩
  | 67 => ⟨S1024x1024, .f32⟩
  | 68 => ⟨S1024x1024, .f32⟩
  | 69 => ⟨S1024x1024, .f32⟩
  | 70 => ⟨S1024x2, .f32⟩
  | 71 => ⟨S1024x2, .i32⟩
  | 72 => ⟨S1024, .i32⟩
  | 73 => ⟨S1024x1, .i32⟩
  | 74 => ⟨S1024x3, .i32⟩
  | 75 => ⟨S3072, .i32⟩
  | 76 => ⟨S1024, .i32⟩
  | 77 => ⟨S1024x3, .i32⟩
  | 78 => ⟨S3072, .i32⟩
  | 79 => ⟨S_, .f32⟩
  | 80 => ⟨S1024x1024, .f32⟩
  | 81 => ⟨S_, .i32⟩
  | 82 => ⟨S3072, .i32⟩
  | 83 => ⟨S3072, .i1⟩
  | 84 => ⟨S_, .i32⟩
  | 85 => ⟨S3072, .i32⟩
  | 86 => ⟨S3072, .i32⟩
  | 87 => ⟨S3072, .i32⟩
  | 88 => ⟨S_, .i32⟩
  | 89 => ⟨S3072, .i32⟩
  | 90 => ⟨S3072, .i1⟩
  | 91 => ⟨S_, .i32⟩
  | 92 => ⟨S3072, .i32⟩
  | 93 => ⟨S3072, .i32⟩
  | 94 => ⟨S3072, .i32⟩
  | 95 => ⟨S3072x1, .i32⟩
  | 96 => ⟨S3072x1, .i32⟩
  | 97 => ⟨S3072x2, .i32⟩
  | 98 => ⟨S_, .f32⟩
  | 99 => ⟨S3072, .f32⟩
  | 100 => ⟨S1024x1024, .f32⟩
  | 101 => ⟨S1x1024x768, .f32⟩
  | 102 => ⟨S1024x768, .f32⟩
  | 103 => ⟨S768x1024, .f32⟩
  | 104 => ⟨S1024x1024, .f32⟩
  | 105 => ⟨S_, .f32⟩
  | 106 => ⟨S1024x1024, .f32⟩
  | 107 => ⟨S1024x1024, .f32⟩
  | 108 => ⟨S1024x768, .f32⟩
  | 109 => ⟨S_, .f32⟩
  | 110 => ⟨S1024, .f32⟩
  | 111 => ⟨S1024x1, .f32⟩
  | 112 => ⟨S1024x1024, .f32⟩
  | 113 => ⟨S1024x1024, .f32⟩
  | 114 => ⟨S1x1024, .f32⟩
  | 115 => ⟨S1024x1024, .f32⟩
  | 116 => ⟨S1024x1024, .f32⟩
  | 117 => ⟨S1024x1024, .f32⟩
  | 118 => ⟨S1024x2, .f32⟩
  | 119 => ⟨S1024x2, .i32⟩
  | 120 => ⟨S1024, .i32⟩
  | 121 => ⟨S1024x1, .i32⟩
  | 122 => ⟨S1024x3, .i32⟩
  | 123 => ⟨S3072, .i32⟩
  | 124 => ⟨S1024, .i32⟩
  | 125 => ⟨S1024x3, .i32⟩
  | 126 => ⟨S3072, .i32⟩
  | 127 => ⟨S_, .f32⟩
  | _ => ⟨S4x768x1024, .f32⟩

abbrev hbmTy0_1 (i : Nat) : BufTy := match i % 128 with
  | 0 => ⟨S1024x1024, .f32⟩
  | 1 => ⟨S_, .i32⟩
  | 2 => ⟨S3072, .i32⟩
  | 3 => ⟨S3072, .i1⟩
  | 4 => ⟨S_, .i32⟩
  | 5 => ⟨S3072, .i32⟩
  | 6 => ⟨S3072, .i32⟩
  | 7 => ⟨S3072, .i32⟩
  | 8 => ⟨S_, .i32⟩
  | 9 => ⟨S3072, .i32⟩
  | 10 => ⟨S3072, .i1⟩
  | 11 => ⟨S_, .i32⟩
  | 12 => ⟨S3072, .i32⟩
  | 13 => ⟨S3072, .i32⟩
  | 14 => ⟨S3072, .i32⟩
  | 15 => ⟨S3072x1, .i32⟩
  | 16 => ⟨S3072x1, .i32⟩
  | 17 => ⟨S3072x2, .i32⟩
  | 18 => ⟨S_, .f32⟩
  | 19 => ⟨S3072, .f32⟩
  | 20 => ⟨S1024x1024, .f32⟩
  | 21 => ⟨S1x1024x768, .f32⟩
  | 22 => ⟨S1024x768, .f32⟩
  | 23 => ⟨S768x1024, .f32⟩
  | 24 => ⟨S1024x1024, .f32⟩
  | 25 => ⟨S_, .f32⟩
  | 26 => ⟨S1024x1024, .f32⟩
  | 27 => ⟨S1024x1024, .f32⟩
  | 28 => ⟨S1024x768, .f32⟩
  | 29 => ⟨S_, .f32⟩
  | 30 => ⟨S1024, .f32⟩
  | 31 => ⟨S1024x1, .f32⟩
  | 32 => ⟨S1024x1024, .f32⟩
  | 33 => ⟨S1024x1024, .f32⟩
  | 34 => ⟨S1x1024, .f32⟩
  | 35 => ⟨S1024x1024, .f32⟩
  | 36 => ⟨S1024x1024, .f32⟩
  | 37 => ⟨S1024x1024, .f32⟩
  | 38 => ⟨S1024x2, .f32⟩
  | 39 => ⟨S1024x2, .i32⟩
  | 40 => ⟨S1024, .i32⟩
  | 41 => ⟨S1024x1, .i32⟩
  | 42 => ⟨S1024x3, .i32⟩
  | 43 => ⟨S3072, .i32⟩
  | 44 => ⟨S1024, .i32⟩
  | 45 => ⟨S1024x3, .i32⟩
  | 46 => ⟨S3072, .i32⟩
  | 47 => ⟨S_, .f32⟩
  | 48 => ⟨S1024x1024, .f32⟩
  | 49 => ⟨S_, .i32⟩
  | 50 => ⟨S3072, .i32⟩
  | 51 => ⟨S3072, .i1⟩
  | 52 => ⟨S_, .i32⟩
  | 53 => ⟨S3072, .i32⟩
  | 54 => ⟨S3072, .i32⟩
  | 55 => ⟨S3072, .i32⟩
  | 56 => ⟨S_, .i32⟩
  | 57 => ⟨S3072, .i32⟩
  | 58 => ⟨S3072, .i1⟩
  | 59 => ⟨S_, .i32⟩
  | 60 => ⟨S3072, .i32⟩
  | 61 => ⟨S3072, .i32⟩
  | 62 => ⟨S3072, .i32⟩
  | 63 => ⟨S3072x1, .i32⟩
  | 64 => ⟨S3072x1, .i32⟩
  | 65 => ⟨S3072x2, .i32⟩
  | 66 => ⟨S_, .f32⟩
  | 67 => ⟨S3072, .f32⟩
  | 68 => ⟨S1024x1024, .f32⟩
  | 69 => ⟨S_, .f32⟩
  | 70 => ⟨S1024, .f32⟩
  | 71 => ⟨S_, .f32⟩
  | 72 => ⟨S1024, .f32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S1024x1024, .i1⟩
  | 79 => ⟨S1024x1, .f32⟩
  | 80 => ⟨S_, .f32⟩
  | 81 => ⟨S1024x1024, .f32⟩
  | 82 => ⟨S1024x1024, .f32⟩
  | 83 => ⟨S1024x1024, .f32⟩
  | 84 => ⟨S_, .f32⟩
  | 85 => ⟨S1024, .f32⟩
  | 86 => ⟨S_, .f32⟩
  | 87 => ⟨S1024, .f32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S1024x1024, .i1⟩
  | 94 => ⟨S1024x1, .f32⟩
  | 95 => ⟨S_, .f32⟩
  | 96 => ⟨S1024x1024, .f32⟩
  | 97 => ⟨S1024x1024, .f32⟩
  | 98 => ⟨S1024x1024, .f32⟩
  | 99 => ⟨S_, .f32⟩
  | 100 => ⟨S1024, .f32⟩
  | 101 => ⟨S_, .f32⟩
  | 102 => ⟨S1024, .f32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S1024x1024, .i1⟩
  | 109 => ⟨S1024x1, .f32⟩
  | 110 => ⟨S_, .f32⟩
  | 111 => ⟨S1024x1024, .f32⟩
  | 112 => ⟨S1024x1024, .f32⟩
  | 113 => ⟨S1024x1024, .f32⟩
  | 114 => ⟨S_, .f32⟩
  | 115 => ⟨S1024, .f32⟩
  | 116 => ⟨S_, .f32⟩
  | 117 => ⟨S1024, .f32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S1024x1024, .i1⟩
  | 124 => ⟨S1024x1, .f32⟩
  | 125 => ⟨S_, .f32⟩
  | 126 => ⟨S1024x1024, .f32⟩
  | 127 => ⟨S1024x1024, .f32⟩
  | _ => ⟨S4x768x1024, .f32⟩

abbrev hbmTy0_2 (i : Nat) : BufTy := match i % 128 with
  | 0 => ⟨S1024x1024, .f32⟩
  | 1 => ⟨S_, .f32⟩
  | 2 => ⟨S1024, .f32⟩
  | 3 => ⟨S_, .f32⟩
  | 4 => ⟨S1024, .f32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S1024x1024, .i1⟩
  | 11 => ⟨S1024x1, .f32⟩
  | 12 => ⟨S_, .f32⟩
  | 13 => ⟨S1024x1024, .f32⟩
  | 14 => ⟨S1024x1024, .f32⟩
  | 15 => ⟨S1024x1024, .f32⟩
  | 16 => ⟨S_, .f32⟩
  | 17 => ⟨S1024, .f32⟩
  | 18 => ⟨S_, .f32⟩
  | 19 => ⟨S1024, .f32⟩
  | 20 => ⟨S1024x1024, .i32⟩
  | 21 => ⟨S1024x1024, .i32⟩
  | 22 => ⟨S_, .i32⟩
  | 23 => ⟨S1024x1024, .i32⟩
  | 24 => ⟨S1024x1024, .i32⟩
  | 25 => ⟨S1024x1024, .i1⟩
  | 26 => ⟨S1024x1, .f32⟩
  | 27 => ⟨S_, .f32⟩
  | 28 => ⟨S1024x1024, .f32⟩
  | 29 => ⟨S1024x1024, .f32⟩
  | 30 => ⟨S1024x1024, .f32⟩
  | 31 => ⟨S_, .f32⟩
  | 32 => ⟨S1024, .f32⟩
  | 33 => ⟨S_, .f32⟩
  | 34 => ⟨S1024, .f32⟩
  | 35 => ⟨S1024x1024, .i32⟩
  | 36 => ⟨S1024x1024, .i32⟩
  | 37 => ⟨S_, .i32⟩
  | 38 => ⟨S1024x1024, .i32⟩
  | 39 => ⟨S1024x1024, .i32⟩
  | 40 => ⟨S1024x1024, .i1⟩
  | 41 => ⟨S1024x1, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024, .f32⟩
  | 48 => ⟨S_, .f32⟩
  | 49 => ⟨S1024, .f32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S1024x1024, .i1⟩
  | 56 => ⟨S1024x1, .f32⟩
  | 57 => ⟨S_, .f32⟩
  | 58 => ⟨S1024x1024, .f32⟩
  | 59 => ⟨S1024x1024, .f32⟩
  | 60 => ⟨S1024x1024, .f32⟩
  | 61 => ⟨S1x1024x1024, .f32⟩
  | 62 => ⟨S1x1024x1024, .f32⟩
  | 63 => ⟨S1x1024x1024, .f32⟩
  | 64 => ⟨S1x1024x1024, .f32⟩
  | 65 => ⟨S1x1024x1024, .f32⟩
  | 66 => ⟨S1x1024x1024, .f32⟩
  | 67 => ⟨S1x1024x1024, .f32⟩
  | 68 => ⟨S1x1024x1024, .f32⟩
  | 69 => ⟨S8x1024x1024, .f32⟩
  | 70 => ⟨S1024, .i32⟩
  | 71 => ⟨S1x1024x1, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S1024x1024, .i1⟩
  | 78 => ⟨S1024x1024, .f32⟩
  | 79 => ⟨S8x1024x1024, .f32⟩
  | 80 => ⟨S_, .i32⟩
  | 81 => ⟨S_, .i32⟩
  | 82 => ⟨S1x1024x1, .i32⟩
  | 83 => ⟨S_, .i32⟩
  | 84 => ⟨S_, .i32⟩
  | 85 => ⟨S8x1024x1024, .f32⟩
  | 86 => ⟨S8x1024x1024, .f32⟩
  | 87 => ⟨S_, .i32⟩
  | 88 => ⟨S_, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S8x1x1, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S8x1024x1, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S8x1x1024, .f32⟩
  | 123 => ⟨S8x1x1024, .f32⟩
  | 124 => ⟨S8x1x1024, .f32⟩
  | 125 => ⟨S_, .i32⟩
  | 126 => ⟨S_, .i1⟩
  | 127 => ⟨S_, .i32⟩
  | _ => ⟨S4x768x1024, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S8x1x1024, .f32⟩
  | 6 => ⟨S8x1x1024, .f32⟩
  | 7 => ⟨S8x1x1024, .f32⟩
  | 8 => ⟨S_, .i32⟩
  | 9 => ⟨S1x1024x1, .i32⟩
  | 10 => ⟨S1x1024x1, .i1⟩
  | 11 => ⟨S8x1024x1024, .f32⟩
  | 12 => ⟨S8x1024x1024, .f32⟩
  | 13 => ⟨S8x1024x1024, .f32⟩
  | 14 => ⟨S8x1024x1024, .f32⟩
  | 15 => ⟨S8x1024x1024, .i1⟩
  | 16 => ⟨S8x1024x1024, .f32⟩
  | 17 => ⟨S8x1024x1024, .f32⟩
  | 18 => ⟨S_, .i32⟩
  | 19 => ⟨S1x1024x1, .i32⟩
  | 20 => ⟨S1x1024x1, .i1⟩
  | 21 => ⟨S8x1024x1024, .f32⟩
  | 22 => ⟨S8x1024x1024, .f32⟩
  | 23 => ⟨S8x1024x1024, .f32⟩
  | 24 => ⟨S8x1024x1024, .f32⟩
  | 25 => ⟨S8x1024x1024, .i1⟩
  | 26 => ⟨S8x1024x1024, .f32⟩
  | 27 => ⟨S8x1024x1024, .f32⟩
  | 28 => ⟨S_, .i32⟩
  | 29 => ⟨S_, .i32⟩
  | 30 => ⟨S1x1024x768, .f32⟩
  | 31 => ⟨S1024x768, .f32⟩
  | 32 => ⟨S1x1024x1024, .f32⟩
  | 33 => ⟨S1024x1024, .f32⟩
  | 34 => ⟨S1x1024x1024, .f32⟩
  | 35 => ⟨S1024x1024, .f32⟩
  | 36 => ⟨S1024x159, .f32⟩
  | 37 => ⟨S1024x1024, .f32⟩
  | 38 => ⟨S1024x1024, .f32⟩
  | 39 => ⟨S1024x159, .f32⟩
  | 40 => ⟨S1024x1024, .f32⟩
  | 41 => ⟨S1024x159, .f32⟩
  | 42 => ⟨S1x1024x768, .f32⟩
  | 43 => ⟨S1024x768, .f32⟩
  | 44 => ⟨S1x1024x1024, .f32⟩
  | 45 => ⟨S1024x1024, .f32⟩
  | 46 => ⟨S1x1024x1024, .f32⟩
  | 47 => ⟨S1024x1024, .f32⟩
  | 48 => ⟨S1024x159, .f32⟩
  | 49 => ⟨S1024x1024, .f32⟩
  | 50 => ⟨S1024x1024, .f32⟩
  | 51 => ⟨S1024x159, .f32⟩
  | 52 => ⟨S1024x1024, .f32⟩
  | 53 => ⟨S1024x159, .f32⟩
  | 54 => ⟨S1x1024x768, .f32⟩
  | 55 => ⟨S1024x768, .f32⟩
  | 56 => ⟨S1x1024x1024, .f32⟩
  | 57 => ⟨S1024x1024, .f32⟩
  | 58 => ⟨S1x1024x1024, .f32⟩
  | 59 => ⟨S1024x1024, .f32⟩
  | 60 => ⟨S1024x159, .f32⟩
  | 61 => ⟨S1024x1024, .f32⟩
  | 62 => ⟨S1024x1024, .f32⟩
  | 63 => ⟨S1024x159, .f32⟩
  | 64 => ⟨S1024x1024, .f32⟩
  | 65 => ⟨S1024x159, .f32⟩
  | 66 => ⟨S1x1024x768, .f32⟩
  | 67 => ⟨S1024x768, .f32⟩
  | 68 => ⟨S1x1024x1024, .f32⟩
  | 69 => ⟨S1024x1024, .f32⟩
  | 70 => ⟨S1x1024x1024, .f32⟩
  | 71 => ⟨S1024x1024, .f32⟩
  | 72 => ⟨S1024x159, .f32⟩
  | 73 => ⟨S1024x1024, .f32⟩
  | 74 => ⟨S1024x1024, .f32⟩
  | 75 => ⟨S1024x159, .f32⟩
  | 76 => ⟨S1024x1024, .f32⟩
  | 77 => ⟨S1024x159, .f32⟩
  | 78 => ⟨S4096x159, .f32⟩
  | 79 => ⟨S4x159x1024x1, .f32⟩
  | 80 => ⟨S_, .f32⟩
  | 81 => ⟨S159, .f32⟩
  | 82 => ⟨S1x159x1x1, .f32⟩
  | 83 => ⟨S_, .f32⟩
  | 84 => ⟨S1x159x1x1, .f32⟩
  | 85 => ⟨S1x159x1x1, .f32⟩
  | 86 => ⟨S_, .i32⟩
  | 87 => ⟨S_, .f32⟩
  | 88 => ⟨S159, .f32⟩
  | 89 => ⟨S1x159x1x1, .f32⟩
  | 90 => ⟨S_, .f32⟩
  | 91 => ⟨S1x159x1x1, .f32⟩
  | 92 => ⟨S1x159x1x1, .f32⟩
  | 93 => ⟨S4x159x1024x1, .f32⟩
  | 94 => ⟨S4x159x1024x1, .f32⟩
  | 95 => ⟨S4x159x1024x1, .f32⟩
  | 96 => ⟨S_, .f32⟩
  | 97 => ⟨S_, .f32⟩
  | 98 => ⟨S_, .f32⟩
  | 99 => ⟨S_, .f32⟩
  | 100 => ⟨S159, .f32⟩
  | 101 => ⟨S1x159x1x1, .f32⟩
  | 102 => ⟨S1x159x1x1, .f32⟩
  | 103 => ⟨S1x159x1x1, .f32⟩
  | 104 => ⟨S_, .f32⟩
  | 105 => ⟨S_, .i1⟩
  | 106 => ⟨S_, .f32⟩
  | 107 => ⟨S_, .f32⟩
  | 108 => ⟨S1x159x1x1, .f32⟩
  | 109 => ⟨S1x159x1x1, .f32⟩
  | 110 => ⟨S4x159x1024x1, .f32⟩
  | 111 => ⟨S4x159x1024x1, .f32⟩
  | 112 => ⟨S_, .f32⟩
  | 113 => ⟨S1x159x1x1, .f32⟩
  | 114 => ⟨S1x159x1x1, .f32⟩
  | 115 => ⟨S1x159x1x1, .f32⟩
  | 116 => ⟨S4x159x1024x1, .f32⟩
  | 117 => ⟨S4x159x1024x1, .f32⟩
  | 118 => ⟨S1x159x1x1, .f32⟩
  | 119 => ⟨S4x159x1024x1, .f32⟩
  | 120 => ⟨S4x159x1024x1, .f32⟩
  | 121 => ⟨S1x159x1x1, .f32⟩
  | 122 => ⟨S4x159x1024x1, .f32⟩
  | 123 => ⟨S4x159x1024x1, .f32⟩
  | 124 => ⟨S_, .f32⟩
  | 125 => ⟨S4x159x1024x1, .f32⟩
  | 126 => ⟨S4x159x1024x1, .f32⟩
  | _ => ⟨S4x768x1024, .f32⟩

abbrev hbmTy (i : Nat) : BufTy := match i / 128 with
  | 0 => hbmTy0_0 i
  | 1 => hbmTy0_1 i
  | 2 => hbmTy0_2 i
  | 3 => hbmTy0_3 i
  | _ => ⟨S4x768x1024, .f32⟩

abbrev bufTy : (tb : Table) → Fin (tcTables nBuf tb) → BufTy
  | .hbm, ⟨i, _⟩ => hbmTy i
  | _, _ => ⟨S4x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_values_8 : Ref sig .tc := ⟨.hbm, 70, rfl⟩
abbrev main_indices_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_values_18 : Ref sig .tc := ⟨.hbm, 118, rfl⟩
abbrev main_indices_19 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_c_21 : Ref sig .tc := ⟨.hbm, 129, rfl⟩
abbrev main_v100 : Ref sig .tc := ⟨.hbm, 130, rfl⟩
abbrev main_v101 : Ref sig .tc := ⟨.hbm, 131, rfl⟩
abbrev main_c_22 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_23 : Ref sig .tc := ⟨.hbm, 136, rfl⟩
abbrev main_v105 : Ref sig .tc := ⟨.hbm, 137, rfl⟩
abbrev main_v106 : Ref sig .tc := ⟨.hbm, 138, rfl⟩
abbrev main_c_24 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_25 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_26 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_27 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_values_28 : Ref sig .tc := ⟨.hbm, 166, rfl⟩
abbrev main_indices_29 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_30 : Ref sig .tc := ⟨.hbm, 175, rfl⟩
abbrev main_v137 : Ref sig .tc := ⟨.hbm, 176, rfl⟩
abbrev main_c_31 : Ref sig .tc := ⟨.hbm, 177, rfl⟩
abbrev main_v138 : Ref sig .tc := ⟨.hbm, 178, rfl⟩
abbrev main_v139 : Ref sig .tc := ⟨.hbm, 179, rfl⟩
abbrev main_c_32 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_33 : Ref sig .tc := ⟨.hbm, 184, rfl⟩
abbrev main_v143 : Ref sig .tc := ⟨.hbm, 185, rfl⟩
abbrev main_v144 : Ref sig .tc := ⟨.hbm, 186, rfl⟩
abbrev main_c_34 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_35 : Ref sig .tc := ⟨.hbm, 194, rfl⟩
abbrev main_v151 : Ref sig .tc := ⟨.hbm, 195, rfl⟩
abbrev main_v152 : Ref sig .tc := ⟨.hbm, 196, rfl⟩
abbrev main_cst_36 : Ref sig .tc := ⟨.hbm, 197, rfl⟩
abbrev main_v153 : Ref sig .tc := ⟨.hbm, 198, rfl⟩
abbrev main_call0_cst : Ref sig .tc := ⟨.hbm, 199, rfl⟩
abbrev main_call0_v0 : Ref sig .tc := ⟨.hbm, 200, rfl⟩
abbrev main_call0_v1 : Ref sig .tc := ⟨.hbm, 201, rfl⟩
abbrev main_call0_v2 : Ref sig .tc := ⟨.hbm, 202, rfl⟩
abbrev main_call0_c : Ref sig .tc := ⟨.hbm, 203, rfl⟩
abbrev main_call0_v3 : Ref sig .tc := ⟨.hbm, 204, rfl⟩
abbrev main_call0_v4 : Ref sig .tc := ⟨.hbm, 205, rfl⟩
abbrev main_call0_v5 : Ref sig .tc := ⟨.hbm, 206, rfl⟩
abbrev main_call0_v6 : Ref sig .tc := ⟨.hbm, 207, rfl⟩
abbrev main_call0_cst_0 : Ref sig .tc := ⟨.hbm, 208, rfl⟩
abbrev main_call0_call0_v0 : Ref sig .tc := ⟨.hbm, 209, rfl⟩
abbrev main_call0_call0_v1 : Ref sig .tc := ⟨.hbm, 210, rfl⟩
abbrev main_v154 : Ref sig .tc := ⟨.hbm, 211, rfl⟩
abbrev main_cst_37 : Ref sig .tc := ⟨.hbm, 212, rfl⟩
abbrev main_v155 : Ref sig .tc := ⟨.hbm, 213, rfl⟩
abbrev main_call1_cst : Ref sig .tc := ⟨.hbm, 214, rfl⟩
abbrev main_call1_v0 : Ref sig .tc := ⟨.hbm, 215, rfl⟩
abbrev main_call1_v1 : Ref sig .tc := ⟨.hbm, 216, rfl⟩
abbrev main_call1_v2 : Ref sig .tc := ⟨.hbm, 217, rfl⟩
abbrev main_call1_c : Ref sig .tc := ⟨.hbm, 218, rfl⟩
abbrev main_call1_v3 : Ref sig .tc := ⟨.hbm, 219, rfl⟩
abbrev main_call1_v4 : Ref sig .tc := ⟨.hbm, 220, rfl⟩
abbrev main_call1_v5 : Ref sig .tc := ⟨.hbm, 221, rfl⟩
abbrev main_call1_v6 : Ref sig .tc := ⟨.hbm, 222, rfl⟩
abbrev main_call1_cst_0 : Ref sig .tc := ⟨.hbm, 223, rfl⟩
abbrev main_call1_call0_v0 : Ref sig .tc := ⟨.hbm, 224, rfl⟩
abbrev main_call1_call0_v1 : Ref sig .tc := ⟨.hbm, 225, rfl⟩
abbrev main_v156 : Ref sig .tc := ⟨.hbm, 226, rfl⟩
abbrev main_cst_38 : Ref sig .tc := ⟨.hbm, 227, rfl⟩
abbrev main_v157 : Ref sig .tc := ⟨.hbm, 228, rfl⟩
abbrev main_call2_cst : Ref sig .tc := ⟨.hbm, 229, rfl⟩
abbrev main_call2_v0 : Ref sig .tc := ⟨.hbm, 230, rfl⟩
abbrev main_call2_v1 : Ref sig .tc := ⟨.hbm, 231, rfl⟩
abbrev main_call2_v2 : Ref sig .tc := ⟨.hbm, 232, rfl⟩
abbrev main_call2_c : Ref sig .tc := ⟨.hbm, 233, rfl⟩
abbrev main_call2_v3 : Ref sig .tc := ⟨.hbm, 234, rfl⟩
abbrev main_call2_v4 : Ref sig .tc := ⟨.hbm, 235, rfl⟩
abbrev main_call2_v5 : Ref sig .tc := ⟨.hbm, 236, rfl⟩
abbrev main_call2_v6 : Ref sig .tc := ⟨.hbm, 237, rfl⟩
abbrev main_call2_cst_0 : Ref sig .tc := ⟨.hbm, 238, rfl⟩
abbrev main_call2_call0_v0 : Ref sig .tc := ⟨.hbm, 239, rfl⟩
abbrev main_call2_call0_v1 : Ref sig .tc := ⟨.hbm, 240, rfl⟩
abbrev main_v158 : Ref sig .tc := ⟨.hbm, 241, rfl⟩
abbrev main_cst_39 : Ref sig .tc := ⟨.hbm, 242, rfl⟩
abbrev main_v159 : Ref sig .tc := ⟨.hbm, 243, rfl⟩
abbrev main_call3_cst : Ref sig .tc := ⟨.hbm, 244, rfl⟩
abbrev main_call3_v0 : Ref sig .tc := ⟨.hbm, 245, rfl⟩
abbrev main_call3_v1 : Ref sig .tc := ⟨.hbm, 246, rfl⟩
abbrev main_call3_v2 : Ref sig .tc := ⟨.hbm, 247, rfl⟩
abbrev main_call3_c : Ref sig .tc := ⟨.hbm, 248, rfl⟩
abbrev main_call3_v3 : Ref sig .tc := ⟨.hbm, 249, rfl⟩
abbrev main_call3_v4 : Ref sig .tc := ⟨.hbm, 250, rfl⟩
abbrev main_call3_v5 : Ref sig .tc := ⟨.hbm, 251, rfl⟩
abbrev main_call3_v6 : Ref sig .tc := ⟨.hbm, 252, rfl⟩
abbrev main_call3_cst_0 : Ref sig .tc := ⟨.hbm, 253, rfl⟩
abbrev main_call3_call0_v0 : Ref sig .tc := ⟨.hbm, 254, rfl⟩
abbrev main_call3_call0_v1 : Ref sig .tc := ⟨.hbm, 255, rfl⟩
abbrev main_v160 : Ref sig .tc := ⟨.hbm, 256, rfl⟩
abbrev main_cst_40 : Ref sig .tc := ⟨.hbm, 257, rfl⟩
abbrev main_v161 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_v2 : Ref sig .tc := ⟨.hbm, 262, rfl⟩
abbrev main_call4_c : Ref sig .tc := ⟨.hbm, 263, rfl⟩
abbrev main_call4_v3 : Ref sig .tc := ⟨.hbm, 264, rfl⟩
abbrev main_call4_v4 : Ref sig .tc := ⟨.hbm, 265, rfl⟩
abbrev main_call4_v5 : Ref sig .tc := ⟨.hbm, 266, rfl⟩
abbrev main_call4_v6 : Ref sig .tc := ⟨.hbm, 267, rfl⟩
abbrev main_call4_cst_0 : Ref sig .tc := ⟨.hbm, 268, rfl⟩
abbrev main_call4_call0_v0 : Ref sig .tc := ⟨.hbm, 269, rfl⟩
abbrev main_call4_call0_v1 : Ref sig .tc := ⟨.hbm, 270, rfl⟩
abbrev main_v162 : Ref sig .tc := ⟨.hbm, 271, rfl⟩
abbrev main_cst_41 : Ref sig .tc := ⟨.hbm, 272, rfl⟩
abbrev main_v163 : Ref sig .tc := ⟨.hbm, 273, rfl⟩
abbrev main_call5_cst : Ref sig .tc := ⟨.hbm, 274, rfl⟩
abbrev main_call5_v0 : Ref sig .tc := ⟨.hbm, 275, rfl⟩
abbrev main_call5_v1 : Ref sig .tc := ⟨.hbm, 276, rfl⟩
abbrev main_call5_v2 : Ref sig .tc := ⟨.hbm, 277, rfl⟩
abbrev main_call5_c : Ref sig .tc := ⟨.hbm, 278, rfl⟩
abbrev main_call5_v3 : Ref sig .tc := ⟨.hbm, 279, rfl⟩
abbrev main_call5_v4 : Ref sig .tc := ⟨.hbm, 280, rfl⟩
abbrev main_call5_v5 : Ref sig .tc := ⟨.hbm, 281, rfl⟩
abbrev main_call5_v6 : Ref sig .tc := ⟨.hbm, 282, rfl⟩
abbrev main_call5_cst_0 : Ref sig .tc := ⟨.hbm, 283, rfl⟩
abbrev main_call5_call0_v0 : Ref sig .tc := ⟨.hbm, 284, rfl⟩
abbrev main_call5_call0_v1 : Ref sig .tc := ⟨.hbm, 285, rfl⟩
abbrev main_v164 : Ref sig .tc := ⟨.hbm, 286, rfl⟩
abbrev main_cst_42 : Ref sig .tc := ⟨.hbm, 287, rfl⟩
abbrev main_v165 : Ref sig .tc := ⟨.hbm, 288, rfl⟩
abbrev main_call6_cst : Ref sig .tc := ⟨.hbm, 289, rfl⟩
abbrev main_call6_v0 : Ref sig .tc := ⟨.hbm, 290, rfl⟩
abbrev main_call6_v1 : Ref sig .tc := ⟨.hbm, 291, rfl⟩
abbrev main_call6_v2 : Ref sig .tc := ⟨.hbm, 292, rfl⟩
abbrev main_call6_c : Ref sig .tc := ⟨.hbm, 293, rfl⟩
abbrev main_call6_v3 : Ref sig .tc := ⟨.hbm, 294, rfl⟩
abbrev main_call6_v4 : Ref sig .tc := ⟨.hbm, 295, rfl⟩
abbrev main_call6_v5 : Ref sig .tc := ⟨.hbm, 296, rfl⟩
abbrev main_call6_v6 : Ref sig .tc := ⟨.hbm, 297, rfl⟩
abbrev main_call6_cst_0 : Ref sig .tc := ⟨.hbm, 298, rfl⟩
abbrev main_call6_call0_v0 : Ref sig .tc := ⟨.hbm, 299, rfl⟩
abbrev main_call6_call0_v1 : Ref sig .tc := ⟨.hbm, 300, rfl⟩
abbrev main_v166 : Ref sig .tc := ⟨.hbm, 301, rfl⟩
abbrev main_cst_43 : Ref sig .tc := ⟨.hbm, 302, rfl⟩
abbrev main_v167 : Ref sig .tc := ⟨.hbm, 303, rfl⟩
abbrev main_call7_cst : Ref sig .tc := ⟨.hbm, 304, rfl⟩
abbrev main_call7_v0 : Ref sig .tc := ⟨.hbm, 305, rfl⟩
abbrev main_call7_v1 : Ref sig .tc := ⟨.hbm, 306, rfl⟩
abbrev main_call7_v2 : Ref sig .tc := ⟨.hbm, 307, rfl⟩
abbrev main_call7_c : Ref sig .tc := ⟨.hbm, 308, rfl⟩
abbrev main_call7_v3 : Ref sig .tc := ⟨.hbm, 309, rfl⟩
abbrev main_call7_v4 : Ref sig .tc := ⟨.hbm, 310, rfl⟩
abbrev main_call7_v5 : Ref sig .tc := ⟨.hbm, 311, rfl⟩
abbrev main_call7_v6 : Ref sig .tc := ⟨.hbm, 312, rfl⟩
abbrev main_call7_cst_0 : Ref sig .tc := ⟨.hbm, 313, rfl⟩
abbrev main_call7_call0_v0 : Ref sig .tc := ⟨.hbm, 314, rfl⟩
abbrev main_call7_call0_v1 : Ref sig .tc := ⟨.hbm, 315, rfl⟩
abbrev main_v168 : Ref sig .tc := ⟨.hbm, 316, rfl⟩
abbrev main_v169 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_v175 : Ref sig .tc := ⟨.hbm, 323, rfl⟩
abbrev main_v176 : Ref sig .tc := ⟨.hbm, 324, rfl⟩
abbrev main_v177 : Ref sig .tc := ⟨.hbm, 325, rfl⟩
abbrev main_v178 : Ref sig .tc := ⟨.hbm, 326, rfl⟩
abbrev main_v179 : Ref sig .tc := ⟨.hbm, 327, rfl⟩
abbrev main_v180 : Ref sig .tc := ⟨.hbm, 328, rfl⟩
abbrev main_v181 : Ref sig .tc := ⟨.hbm, 329, rfl⟩
abbrev main_c_44 : Ref sig .tc := ⟨.hbm, 330, rfl⟩
abbrev main_v182 : Ref sig .tc := ⟨.hbm, 331, rfl⟩
abbrev main_v183 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_c_45 : Ref sig .tc := ⟨.hbm, 336, rfl⟩
abbrev main_c_46 : Ref sig .tc := ⟨.hbm, 337, rfl⟩
abbrev main_v187_0 : Ref sig .tc := ⟨.hbm, 338, rfl⟩
abbrev main_v187_1 : Ref sig .tc := ⟨.hbm, 339, rfl⟩
abbrev main_v187_2 : Ref sig .tc := ⟨.hbm, 340, rfl⟩
abbrev main_v187_3 : Ref sig .tc := ⟨.hbm, 341, rfl⟩
abbrev main_v187_4 : Ref sig .tc := ⟨.hbm, 342, rfl⟩
abbrev main_while0c_c_55 : Ref sig .tc := ⟨.hbm, 343, rfl⟩
abbrev main_while0c_v257 : Ref sig .tc := ⟨.hbm, 344, rfl⟩
abbrev main_while0b_c_55 : Ref sig .tc := ⟨.hbm, 345, rfl⟩
abbrev main_while0b_v257 : Ref sig .tc := ⟨.hbm, 346, rfl⟩
abbrev main_while0b_c_56 : Ref sig .tc := ⟨.hbm, 347, rfl⟩
abbrev main_while0b_v258 : Ref sig .tc := ⟨.hbm, 348, rfl⟩
abbrev main_while0b_v259 : Ref sig .tc := ⟨.hbm, 349, rfl⟩
abbrev main_while0b_c_57 : Ref sig .tc := ⟨.hbm, 350, rfl⟩
abbrev main_while0b_v260 : Ref sig .tc := ⟨.hbm, 351, rfl⟩
abbrev main_while0b_v261 : Ref sig .tc := ⟨.hbm, 352, rfl⟩
abbrev main_while0b_c_58 : Ref sig .tc := ⟨.hbm, 353, rfl⟩
abbrev main_while0b_v262 : Ref sig .tc := ⟨.hbm, 354, rfl⟩
abbrev main_while0b_v263 : Ref sig .tc := ⟨.hbm, 355, rfl⟩
abbrev main_while0b_c_59 : Ref sig .tc := ⟨.hbm, 356, rfl⟩
abbrev main_while0b_v264 : Ref sig .tc := ⟨.hbm, 357, rfl⟩
abbrev main_while0b_v265 : Ref sig .tc := ⟨.hbm, 358, rfl⟩
abbrev main_while0b_c_60 : Ref sig .tc := ⟨.hbm, 359, rfl⟩
abbrev main_while0b_v266 : Ref sig .tc := ⟨.hbm, 360, rfl⟩
abbrev main_while0b_c_61 : Ref sig .tc := ⟨.hbm, 361, rfl⟩
abbrev main_while0b_v267 : Ref sig .tc := ⟨.hbm, 362, rfl⟩
abbrev main_while0b_v268 : Ref sig .tc := ⟨.hbm, 363, rfl⟩
abbrev main_while0b_c_62 : Ref sig .tc := ⟨.hbm, 364, rfl⟩
abbrev main_while0b_v269 : Ref sig .tc := ⟨.hbm, 365, rfl⟩
abbrev main_while0b_v270 : Ref sig .tc := ⟨.hbm, 366, rfl⟩
abbrev main_while0b_c_63 : Ref sig .tc := ⟨.hbm, 367, rfl⟩
abbrev main_while0b_c_64 : Ref sig .tc := ⟨.hbm, 368, rfl⟩
abbrev main_while0b_v271 : Ref sig .tc := ⟨.hbm, 369, rfl⟩
abbrev main_while0b_c_65 : Ref sig .tc := ⟨.hbm, 370, rfl⟩
abbrev main_while0b_v272 : Ref sig .tc := ⟨.hbm, 371, rfl⟩
abbrev main_while0b_v273 : Ref sig .tc := ⟨.hbm, 372, rfl⟩
abbrev main_while0b_c_66 : Ref sig .tc := ⟨.hbm, 373, rfl⟩
abbrev main_while0b_v274 : Ref sig .tc := ⟨.hbm, 374, rfl⟩
abbrev main_while0b_v275 : Ref sig .tc := ⟨.hbm, 375, rfl⟩
abbrev main_while0b_c_67 : Ref sig .tc := ⟨.hbm, 376, rfl⟩
abbrev main_while0b_c_68 : Ref sig .tc := ⟨.hbm, 377, rfl⟩
abbrev main_while0b_v276 : Ref sig .tc := ⟨.hbm, 378, rfl⟩
abbrev main_while0b_v277 : Ref sig .tc := ⟨.hbm, 379, rfl⟩
abbrev main_while0b_v278 : Ref sig .tc := ⟨.hbm, 380, rfl⟩
abbrev main_while0b_c_69 : Ref sig .tc := ⟨.hbm, 381, rfl⟩
abbrev main_while0b_v279 : Ref sig .tc := ⟨.hbm, 382, rfl⟩
abbrev main_while0b_v280 : Ref sig .tc := ⟨.hbm, 383, rfl⟩
abbrev main_while0b_c_70 : Ref sig .tc := ⟨.hbm, 384, rfl⟩
abbrev main_while0b_v281 : Ref sig .tc := ⟨.hbm, 385, rfl⟩
abbrev main_while0b_v282 : Ref sig .tc := ⟨.hbm, 386, rfl⟩
abbrev main_while0b_c_71 : Ref sig .tc := ⟨.hbm, 387, rfl⟩
abbrev main_while0b_c_72 : Ref sig .tc := ⟨.hbm, 388, rfl⟩
abbrev main_while0b_v283 : Ref sig .tc := ⟨.hbm, 389, rfl⟩
abbrev main_while0b_v284 : Ref sig .tc := ⟨.hbm, 390, rfl⟩
abbrev main_while0b_v285 : Ref sig .tc := ⟨.hbm, 391, rfl⟩
abbrev main_while0b_v286 : Ref sig .tc := ⟨.hbm, 392, rfl⟩
abbrev main_while0b_v287 : Ref sig .tc := ⟨.hbm, 393, rfl⟩
abbrev main_while0b_v288 : Ref sig .tc := ⟨.hbm, 394, rfl⟩
abbrev main_while0b_v289 : Ref sig .tc := ⟨.hbm, 395, rfl⟩
abbrev main_while0b_v290 : Ref sig .tc := ⟨.hbm, 396, rfl⟩
abbrev main_while0b_v291 : Ref sig .tc := ⟨.hbm, 397, rfl⟩
abbrev main_while0b_v292 : Ref sig .tc := ⟨.hbm, 398, rfl⟩
abbrev main_while0b_call8_v0 : Ref sig .tc := ⟨.hbm, 399, rfl⟩
abbrev main_while0b_call8_v1 : Ref sig .tc := ⟨.hbm, 400, rfl⟩
abbrev main_while0b_v293 : Ref sig .tc := ⟨.hbm, 401, rfl⟩
abbrev main_while0b_v294 : Ref sig .tc := ⟨.hbm, 402, rfl⟩
abbrev main_while0b_v295 : Ref sig .tc := ⟨.hbm, 403, rfl⟩
abbrev main_while0b_v296 : Ref sig .tc := ⟨.hbm, 404, rfl⟩
abbrev main_while0b_v297 : Ref sig .tc := ⟨.hbm, 405, rfl⟩
abbrev main_while0b_v298 : Ref sig .tc := ⟨.hbm, 406, rfl⟩
abbrev main_while0b_v299 : Ref sig .tc := ⟨.hbm, 407, rfl⟩
abbrev main_while0b_v300 : Ref sig .tc := ⟨.hbm, 408, rfl⟩
abbrev main_while0b_call9_v0 : Ref sig .tc := ⟨.hbm, 409, rfl⟩
abbrev main_while0b_call9_v1 : Ref sig .tc := ⟨.hbm, 410, rfl⟩
abbrev main_while0b_v301 : Ref sig .tc := ⟨.hbm, 411, rfl⟩
abbrev main_while0b_c_73 : Ref sig .tc := ⟨.hbm, 412, rfl⟩
abbrev main_while0b_v302 : Ref sig .tc := ⟨.hbm, 413, rfl⟩
abbrev main_v188 : Ref sig .tc := ⟨.hbm, 414, rfl⟩
abbrev main_v189 : Ref sig .tc := ⟨.hbm, 415, rfl⟩
abbrev main_v190 : Ref sig .tc := ⟨.hbm, 416, rfl⟩
abbrev main_v191 : Ref sig .tc := ⟨.hbm, 417, rfl⟩
abbrev main_v192 : Ref sig .tc := ⟨.hbm, 418, rfl⟩
abbrev main_v193 : Ref sig .tc := ⟨.hbm, 419, rfl⟩
abbrev main_v194 : Ref sig .tc := ⟨.hbm, 420, rfl⟩
abbrev main_v195 : Ref sig .tc := ⟨.hbm, 421, rfl⟩
abbrev main_v196 : Ref sig .tc := ⟨.hbm, 422, rfl⟩
abbrev main_v197 : Ref sig .tc := ⟨.hbm, 423, rfl⟩
abbrev main_v198 : Ref sig .tc := ⟨.hbm, 424, rfl⟩
abbrev main_v199 : Ref sig .tc := ⟨.hbm, 425, rfl⟩
abbrev main_v200 : Ref sig .tc := ⟨.hbm, 426, rfl⟩
abbrev main_v201 : Ref sig .tc := ⟨.hbm, 427, rfl⟩
abbrev main_v202 : Ref sig .tc := ⟨.hbm, 428, rfl⟩
abbrev main_v203 : Ref sig .tc := ⟨.hbm, 429, rfl⟩
abbrev main_v204 : Ref sig .tc := ⟨.hbm, 430, rfl⟩
abbrev main_v205 : Ref sig .tc := ⟨.hbm, 431, rfl⟩
abbrev main_v206 : Ref sig .tc := ⟨.hbm, 432, rfl⟩
abbrev main_v207 : Ref sig .tc := ⟨.hbm, 433, rfl⟩
abbrev main_v208 : Ref sig .tc := ⟨.hbm, 434, rfl⟩
abbrev main_v209 : Ref sig .tc := ⟨.hbm, 435, rfl⟩
abbrev main_v210 : Ref sig .tc := ⟨.hbm, 436, rfl⟩
abbrev main_v211 : Ref sig .tc := ⟨.hbm, 437, rfl⟩
abbrev main_v212 : Ref sig .tc := ⟨.hbm, 438, rfl⟩
abbrev main_v213 : Ref sig .tc := ⟨.hbm, 439, rfl⟩
abbrev main_v214 : Ref sig .tc := ⟨.hbm, 440, rfl⟩
abbrev main_v215 : Ref sig .tc := ⟨.hbm, 441, rfl⟩
abbrev main_v216 : Ref sig .tc := ⟨.hbm, 442, rfl⟩
abbrev main_v217 : Ref sig .tc := ⟨.hbm, 443, rfl⟩
abbrev main_v218 : Ref sig .tc := ⟨.hbm, 444, rfl⟩
abbrev main_v219 : Ref sig .tc := ⟨.hbm, 445, rfl⟩
abbrev main_v220 : Ref sig .tc := ⟨.hbm, 446, rfl⟩
abbrev main_v221 : Ref sig .tc := ⟨.hbm, 447, rfl⟩
abbrev main_v222 : Ref sig .tc := ⟨.hbm, 448, rfl⟩
abbrev main_v223 : Ref sig .tc := ⟨.hbm, 449, rfl⟩
abbrev main_v224 : Ref sig .tc := ⟨.hbm, 450, rfl⟩
abbrev main_v225 : Ref sig .tc := ⟨.hbm, 451, rfl⟩
abbrev main_v226 : Ref sig .tc := ⟨.hbm, 452, rfl⟩
abbrev main_v227 : Ref sig .tc := ⟨.hbm, 453, rfl⟩
abbrev main_v228 : Ref sig .tc := ⟨.hbm, 454, rfl⟩
abbrev main_v229 : Ref sig .tc := ⟨.hbm, 455, rfl⟩
abbrev main_v230 : Ref sig .tc := ⟨.hbm, 456, rfl⟩
abbrev main_v231 : Ref sig .tc := ⟨.hbm, 457, rfl⟩
abbrev main_v232 : Ref sig .tc := ⟨.hbm, 458, rfl⟩
abbrev main_v233 : Ref sig .tc := ⟨.hbm, 459, rfl⟩
abbrev main_v234 : Ref sig .tc := ⟨.hbm, 460, rfl⟩
abbrev main_v235 : Ref sig .tc := ⟨.hbm, 461, rfl⟩
abbrev main_v236 : Ref sig .tc := ⟨.hbm, 462, rfl⟩
abbrev main_v237 : Ref sig .tc := ⟨.hbm, 463, rfl⟩
abbrev main_cst_47 : Ref sig .tc := ⟨.hbm, 464, rfl⟩
abbrev main_v238 : Ref sig .tc := ⟨.hbm, 465, rfl⟩
abbrev main_v239 : Ref sig .tc := ⟨.hbm, 466, rfl⟩
abbrev main_cst_48 : Ref sig .tc := ⟨.hbm, 467, rfl⟩
abbrev main_v240 : Ref sig .tc := ⟨.hbm, 468, rfl⟩
abbrev main_v241 : Ref sig .tc := ⟨.hbm, 469, rfl⟩
abbrev main_c_49 : Ref sig .tc := ⟨.hbm, 470, rfl⟩
abbrev main_call10_cst : Ref sig .tc := ⟨.hbm, 471, rfl⟩
abbrev main_call10_v0 : Ref sig .tc := ⟨.hbm, 472, rfl⟩
abbrev main_call10_v1 : Ref sig .tc := ⟨.hbm, 473, rfl⟩
abbrev main_call10_cst_0 : Ref sig .tc := ⟨.hbm, 474, rfl⟩
abbrev main_call10_v2 : Ref sig .tc := ⟨.hbm, 475, rfl⟩
abbrev main_call10_v3 : Ref sig .tc := ⟨.hbm, 476, rfl⟩
abbrev main_call10_v4 : Ref sig .tc := ⟨.hbm, 477, rfl⟩
abbrev main_call10_v5 : Ref sig .tc := ⟨.hbm, 478, rfl⟩
abbrev main_call10_v6 : Ref sig .tc := ⟨.hbm, 479, rfl⟩
abbrev main_call10_v7 : Ref sig .tc := ⟨.hbm, 480, rfl⟩
abbrev main_call10_cst_1 : Ref sig .tc := ⟨.hbm, 481, rfl⟩
abbrev main_call10_v8 : Ref sig .tc := ⟨.hbm, 482, rfl⟩
abbrev main_call10_cst_2 : Ref sig .tc := ⟨.hbm, 483, rfl⟩
abbrev main_call10_v9 : Ref sig .tc := ⟨.hbm, 484, rfl⟩
abbrev main_call10_v10 : Ref sig .tc := ⟨.hbm, 485, rfl⟩
abbrev main_call10_v11 : Ref sig .tc := ⟨.hbm, 486, rfl⟩
abbrev main_call10_v12 : Ref sig .tc := ⟨.hbm, 487, rfl⟩
abbrev main_call10_cst_3 : Ref sig .tc := ⟨.hbm, 488, rfl⟩
abbrev main_call10_v13 : Ref sig .tc := ⟨.hbm, 489, rfl⟩
abbrev main_call10_cst_4 : Ref sig .tc := ⟨.hbm, 490, rfl⟩
abbrev main_call10_call0_v0 : Ref sig .tc := ⟨.hbm, 491, rfl⟩
abbrev main_call10_call0_v1 : Ref sig .tc := ⟨.hbm, 492, rfl⟩
abbrev main_v242 : Ref sig .tc := ⟨.hbm, 493, rfl⟩
abbrev main_v243 : Ref sig .tc := ⟨.hbm, 494, rfl⟩
abbrev main_v244 : Ref sig .tc := ⟨.hbm, 495, rfl⟩
abbrev main_cst_50 : Ref sig .tc := ⟨.hbm, 496, rfl⟩
abbrev main_v245 : Ref sig .tc := ⟨.hbm, 497, rfl⟩
abbrev main_v246 : Ref sig .tc := ⟨.hbm, 498, rfl⟩
abbrev main_v247 : Ref sig .tc := ⟨.hbm, 499, rfl⟩
abbrev main_v248 : Ref sig .tc := ⟨.hbm, 500, rfl⟩
abbrev main_v249 : Ref sig .tc := ⟨.hbm, 501, rfl⟩
abbrev main_v250 : Ref sig .tc := ⟨.hbm, 502, rfl⟩
abbrev main_v251 : Ref sig .tc := ⟨.hbm, 503, rfl⟩
abbrev main_v252 : Ref sig .tc := ⟨.hbm, 504, rfl⟩
abbrev main_v253 : Ref sig .tc := ⟨.hbm, 505, rfl⟩
abbrev main_v254 : Ref sig .tc := ⟨.hbm, 506, rfl⟩
abbrev main_v255 : Ref sig .tc := ⟨.hbm, 507, rfl⟩
abbrev main_call11_cst : Ref sig .tc := ⟨.hbm, 508, rfl⟩
abbrev main_call11_v0 : Ref sig .tc := ⟨.hbm, 509, rfl⟩
abbrev main_v256 : Ref sig .tc := ⟨.hbm, 510, rfl⟩

abbrev nD : Nat := 1
abbrev τ : Topo := Topo.v7x

variable {F : FTy → Type} [FloatOps F]

abbrev main_while0_count : Scf.Loop 32 := ⟨0#32, 1024#32, 1#32⟩
-- ==== Proof.Pick.lean ====
/- Picking the two least entries of a row: by a masked minimum, and by a stable sort. No program is named here. -/
module

public import Idealize.ShloMosaic.Lib.SortFacts
public import Idealize.ShloMosaic.Lib.Pointwise

@[expose] public section

namespace Cert.Pick

open Idealize.ShloMosaic

/-- `j` stands first among the entries of `f` that `p` admits, by value and then by position. -/
def FirstOf {n : ℕ} (p : Fin n → Prop) (f : Fin n → EReal) (j : Fin n) : Prop :=
  ∀ k, p k → k = j ∨ f j < f k ∨ (f j = f k ∧ j < k)

/-- A fold whose operation keeps `g j` against every other entry and the start is `g j`. -/
theorem fold_keep {ι α : Type*} [Fintype ι] [DecidableEq ι] (op : α → α → α) [Std.Commutative op] [Std.Associative op]
    (b : α) (g : ι → α) (j : ι) (hb : op (g j) b = g j) (hk : ∀ k, k ≠ j → op (g j) (g k) = g j) :
    (Finset.univ : Finset ι).fold op b g = g j := by
  have key : ∀ s : Finset ι, j ∉ s → op (g j) (s.fold op b g) = g j := by
    intro s
    induction s using Finset.induction_on with
    | empty => intro _; simpa using hb
    | insert a s ha ih =>
      intro hj
      rw [Finset.fold_insert ha, ← Std.Associative.assoc (op := op), hk a (fun e => hj (e ▸ Finset.mem_insert_self ..)),
        ih (fun h => hj (Finset.mem_insert_of_mem h))]
  rw [← Finset.insert_erase (Finset.mem_univ j), Finset.fold_insert (Finset.notMem_erase j _)]
  exact key _ (Finset.notMem_erase j _)

/-- The signed minimum keeps the lesser of two words that are not negative. -/
theorem minsi_keep (a b : BitVec 32) (ha : a.toNat < 2 ^ 31) (hb : b.toNat < 2 ^ 31) (h : a.toNat ≤ b.toNat) :
    IntOp.minsi a b = a := by
  unfold IntOp.minsi
  have e1 : a.toInt = a.toNat := BitVec.toInt_eq_toNat_of_lt (by omega)
  have e2 : b.toInt = b.toNat := BitVec.toInt_eq_toNat_of_lt (by omega)
  split
  · rfl
  · next c =>
    rw [BitVec.slt_iff_toInt_lt, e1, e2] at c
    exact BitVec.eq_of_toNat_eq (by omega)

/-- Positions below 1024 are equal when their words are. -/
theorem word_inj (i j : Fin 1024) : BitVec.ofNat 32 i.val = BitVec.ofNat 32 j.val ↔ i = j := by
  refine ⟨fun e => Fin.ext ?_, fun e => by rw [e]⟩
  have := congrArg BitVec.toNat e
  rw [BitVec.toNat_ofNat, BitVec.toNat_ofNat] at this
  omega

/-- The least entry, by a fold of minima from plus infinity. -/
theorem fold_min_first {n : ℕ} {f : Fin n → EReal} {j : Fin n} (h : FirstOf (fun _ => True) f j) :
    (Finset.univ : Finset (Fin n)).fold min ⊤ f = f j :=
  fold_keep min ⊤ f j (min_eq_left le_top) fun k _ => min_eq_left (by
    rcases h k trivial with e | e | e
    · rw [e]
    · exact e.le
    · exact e.1.le)

/-- The first position of the least entry, by a fold of minima over the positions that hold it. -/
theorem fold_first {f : Fin 1024 → EReal} {j : Fin 1024} (h : FirstOf (fun _ => True) f j) :
    (Finset.univ : Finset (Fin 1024)).fold IntOp.minsi 2147483647#32 (fun k => if f k = f j then BitVec.ofNat 32 k.val else 1024#32)
      = BitVec.ofNat 32 j.val := by
  have small : ∀ k : Fin 1024, (BitVec.ofNat 32 k.val).toNat = k.val := fun k => by rw [BitVec.toNat_ofNat]; omega
  rw [fold_keep IntOp.minsi _ (fun k : Fin 1024 => if f k = f j then BitVec.ofNat 32 k.val else 1024#32) j, if_pos rfl]
  · rw [if_pos rfl]
    exact minsi_keep _ _ (by rw [small]; omega) (by decide) (by rw [small]; have : (2147483647#32).toNat = 2147483647 := rfl; omega)
  · intro k hk
    rw [if_pos rfl]
    by_cases c : f k = f j
    · rw [if_pos c]
      refine minsi_keep _ _ (by rw [small]; omega) (by rw [small]; omega) ?_
      rw [small, small]
      rcases h k trivial with e | e | e
      · exact absurd e hk
      · exact absurd c e.ne'
      · exact Nat.le_of_lt (Fin.lt_def.1 e.2)
    · rw [if_neg c]
      exact minsi_keep _ _ (by rw [small]; omega) (by decide) (by rw [small]; have : (1024#32).toNat = 1024 := rfl; omega)

/-- With the first of a row's entries put to plus infinity, the first of the others is the first of all, where that one is below plus infinity. -/
theorem first_masked {n : ℕ} {f g : Fin n → EReal} {i j : Fin n} (hij : j ≠ i) (h : FirstOf (· ≠ i) f j) (hf : f j < ⊤)
    (hi : g i = ⊤) (hg : ∀ k, k ≠ i → g k = f k) : FirstOf (fun _ => True) g j := by
  intro k _
  by_cases c : k = i
  · rw [c, hi, hg j hij]
    exact .inr (.inl hf)
  · rw [hg j hij, hg k c]
    exact h k c

section Sorting
variable {n : ℕ} (f : Fin n → EReal)

/-- The order a stable sort by ascending `f` leaves. -/
def Ord (a b : Fin n) : Prop := f a < f b ∨ (f a = f b ∧ a < b)

variable {f}

/-- Insertion of a position below all of a list's keeps that order. -/
theorem pairwise_insert {before : Fin n → Fin n → Bool} (hB : ∀ a b, before a b = true ↔ f a < f b) (a : Fin n) (l : List (Fin n))
    (ha : ∀ b ∈ l, a < b) (hl : l.Pairwise (Ord f)) : (insertBefore before a l).Pairwise (Ord f) := by
  induction l with
  | nil => exact List.pairwise_singleton ..
  | cons b l ih =>
    rw [List.pairwise_cons] at hl
    rw [insertBefore]
    by_cases h : before b a = true
    · rw [if_pos h, List.pairwise_cons]
      refine ⟨fun x hx => ?_, ih (fun x hx => ha x (.tail _ hx)) hl.2⟩
      rcases List.mem_cons.1 ((perm_insertBefore before a l).mem_iff.1 hx) with e | hx
      · exact e ▸ .inl ((hB _ _).1 h)
      · exact hl.1 x hx
    · rw [if_neg h, List.pairwise_cons]
      have hab : f a ≤ f b := not_lt.1 fun c => h ((hB _ _).2 c)
      have step : ∀ x, f a ≤ f x → a < x → Ord f a x := fun x h1 h2 => (lt_or_eq_of_le h1).imp id fun e => ⟨e, h2⟩
      refine ⟨fun x hx => step x ?_ (ha x hx), List.pairwise_cons.2 hl⟩
      rcases List.mem_cons.1 hx with e | hx
      · exact e ▸ hab
      · rcases hl.1 x hx with c | c
        · exact hab.trans c.le
        · exact hab.trans c.1.le

/-- The stable sort of an ascending list of positions is in that order. -/
theorem pairwise_sort {before : Fin n → Fin n → Bool} (hB : ∀ a b, before a b = true ↔ f a < f b) (l : List (Fin n))
    (hl : l.Pairwise (· < ·)) : (stableSort before l).Pairwise (Ord f) := by
  induction l with
  | nil => exact .nil
  | cons a l ih =>
    rw [List.pairwise_cons] at hl
    exact pairwise_insert hB a _ (fun b hb => hl.1 b ((perm_stableSort before l).mem_iff.1 hb)) (ih hl.2)

/-- In the sorted order, an earlier place holds the position that stands before. -/
theorem sortedFrom_lt {before : Fin n → Fin n → Bool} (hB : ∀ a b, before a b = true ↔ f a < f b) {a b : Fin n} (h : a < b) :
    Ord f (sortedFrom before a) (sortedFrom before b) := by
  have := pairwise_sort hB (List.finRange n) (List.pairwise_lt_finRange n)
  exact List.pairwise_iff_get.1 this _ _ h

/-- The sort's first position is the first of all, and its second the first of the others. -/
theorem sorted_two {before : Fin n → Fin n → Bool} (hB : ∀ a b, before a b = true ↔ f a < f b) {z o : Fin n} (hz : z.val = 0) (ho : o.val = 1) :
    FirstOf (fun _ => True) f (sortedFrom before z)
      ∧ FirstOf (· ≠ sortedFrom before z) f (sortedFrom before o) ∧ sortedFrom before o ≠ sortedFrom before z := by
  refine ⟨fun k _ => ?_, fun k hk => ?_, fun e => ?_⟩
  · obtain ⟨i, rfl⟩ := sortedFrom_surjective before k
    by_cases c : i = z
    · exact .inl (by rw [c])
    · exact .inr (sortedFrom_lt hB (Fin.lt_def.2 (by have := fun e => c (Fin.ext e); omega)))
  · obtain ⟨i, rfl⟩ := sortedFrom_surjective before k
    by_cases c : i = o
    · exact .inl (by rw [c])
    · have hz' : i ≠ z := fun e => hk (by rw [e])
      exact .inr (sortedFrom_lt hB (Fin.lt_def.2 (by
        have h1 := fun e => c (Fin.ext e)
        have h2 := fun e => hz' (Fin.ext e)
        omega)))
  · have := sortedFrom_injective before e
    rw [this] at ho
    omega

end Sorting

/-- The incidence of `i` with `j`: `i` is picked for `j`, or is `j`. -/
noncomputable def incidence (p1 p2 : Fin 1024 → Fin 1024) (i j : Fin 1024) : EReal := if i = p1 j ∨ i = p2 j ∨ i = j then 1 else 0

/-- The degree-normalised products of a block `x` and weights `w` through the incidence matrix `h`. -/
noncomputable def conv (h : Fin 1024 → Fin 1024 → EReal) (x : Fin 1024 → Fin 768 → EReal) (w : Fin 768 → Fin 159 → EReal) (i : Fin 1024) (j : Fin 159) : EReal :=
  ∑ e, h i e * Ideal.div 1 (∑ l, h i l) * ∑ u, h u e * Ideal.div 1 (∑ l, h l e) * ∑ k, x u k * w k j

/-- A sum picked out by a diagonal. -/
theorem sum_diag_left (d : EReal) (f : Fin 1024 → EReal) (i : Fin 1024) : ∑ k, (if i = k then d else 0) * f k = d * f i := by
  rw [Finset.sum_eq_single i, if_pos rfl]
  · intro k _ hk
    rw [if_neg hk.symm, zero_mul]
  · exact fun h => absurd (Finset.mem_univ i) h

/-- A sum picked out by a diagonal on the right. -/
theorem sum_diag_right (d f : Fin 1024 → EReal) (i : Fin 1024) : ∑ k, f k * (if k = i then d k else 0) = f i * d i := by
  rw [Finset.sum_eq_single i, if_pos rfl]
  · intro k _ hk
    rw [if_neg hk, mul_zero]
  · exact fun h => absurd (Finset.mem_univ i) h

end Cert.Pick
-- ==== Proof.RBlock.lean ====
/- The reference's block, read at an index. -/
module

public import proofs.«01_k».proof.Proof.Gen.ReferenceIdeal.Run
public import Idealize.ShloMosaic.Lib.Pointwise
public import Idealize.ShloMosaic.Lib.WordCmp
public import Idealize.ShloMosaic.Lib.Routing.OpsSet
public import proofs.«01_k».proof.Proof.Pick

@[expose] public section

set_option maxRecDepth 16384

noncomputable section

namespace Cert.ReferenceIdeal.Block

open Idealize.ShloMosaic Idealize.SL.Sem
open Cert.ReferenceIdeal Cert.ReferenceIdeal.Gen Cert.ReferenceIdeal.Value Cert.Pick

/-- The negated squared distances of the block's rows, as the reference computes them. -/
def negDis (x : FVec Ideal S1024x768 .f32) : FVec Ideal S1024x1024 .f32 :=
  have q : FVec Ideal S1024x1 .f32 := broadcastInDim S1024x1 ![0] bcast_S1024_S1024x1_0
    (Host.reduceAdd (mulf x x) (constant S_ .f32 0x00000000#32) reducesTo_S1024x768_S1024_d1 h_S_)
  Host.negf (addf (addf (broadcastInDim S1024x1024 ![0, 1] bcast_S1024x1_S1024x1024_0_1 q)
      (mulf (broadcastInDim S1024x1024 ![] bcast_S_S1024x1024 (constant S_ .f32 0xC0000000#32))
        (Host.dotGeneral dot_S1024x768_S768x1024_S1024x1024_1_0_0_1_n_n none x (transpose S768x1024 [1, 0] x transposes_S1024x768_S768x1024_1_0))))
    (broadcastInDim S1024x1024 ![0, 1] bcast_S1x1024_S1024x1024_0_1 (transpose S1x1024 [1, 0] q transposes_S1024x1_S1x1024_1_0)))

/-- Each row's two picks. -/
def top (d : FVec Ideal S1024x1024 .f32) : IVec S1024x2 32 := (Host.topK S1024x2 1 (FloatOps.cmpfTotal .gt) d sliceFits_S1024x1024_S1024x2).2

/-- The list of rows that the hyperedges hold: each one's two picks and itself. -/
def near (t : IVec S1024x2 32) : IVec S3072 32 :=
  shapeCast S3072 (concatenate S1024x3 1 [⟨S1024x2, t⟩, ⟨S1024x1, broadcastInDim S1024x1 ![0] bcast_S1024_S1024x1_0 (iotaInDim S1024 32 0)⟩]
    concatenates_S1024x2_S1024x1_S1024x3_d1) shapeCasts_S1024x3_S3072

/-- The hyperedge of each entry of that list. -/
def edge : IVec S3072 32 :=
  shapeCast S3072 (broadcastInDim S1024x3 ![0] bcast_S1024_S1024x3_0 (iotaInDim S1024 32 0)) shapeCasts_S1024x3_S3072

/-- A negative index counted from the end. -/
def wrap (v : IVec S3072 32) : IVec S3072 32 :=
  select (cmpi .slt v (broadcastInDim S3072 ![] bcast_S_S3072 (constantI S_ 32 0#32)))
    (addi v (broadcastInDim S3072 ![] bcast_S_S3072 (constantI S_ 32 1024#32))) v

/-- The two index words of each update. -/
def table (t : IVec S1024x2 32) : IVec S3072x2 32 :=
  concatenate S3072x2 1 [⟨S3072x1, broadcastInDim S3072x1 ![0] bcast_S3072_S3072x1_0 (wrap (near t))⟩,
    ⟨S3072x1, broadcastInDim S3072x1 ![0] bcast_S3072_S3072x1_0 (wrap edge)⟩] concatenates_S3072x1_S3072x1_S3072x2_d1

/-- The incidence matrix: ones set into zeros. -/
def hyper (t : IVec S1024x2 32) : FVec Ideal S1024x1024 .f32 :=
  Host.scatter scatter_S1024x1024_S3072x2_S3072_n_01_01_1 (fun _ b => b)
    (broadcastInDim S1024x1024 ![] bcast_S_S1024x1024 (constant S_ .f32 0x00000000#32)) (table t)
    (broadcastInDim S3072 ![] bcast_S_S3072 (constant S_ .f32 0x3F800000#32))

/-- A vector on a matrix's diagonal. -/
def diag (d : FVec Ideal S1024 .f32) : FVec Ideal S1024x1024 .f32 :=
  select (cmpi .eq (addi (iotaInDim S1024x1024 32 0) (broadcastInDim S1024x1024 ![] bcast_S_S1024x1024 (constantI S_ 32 0#32))) (iotaInDim S1024x1024 32 1))
    (broadcastInDim S1024x1024 ![0, 1] bcast_S1024x1_S1024x1024_0_1 (broadcastInDim S1024x1 ![0] bcast_S1024_S1024x1_0
      (pad S1024 ![0] ![0] ![0] d (constant S_ .f32 0x00000000#32) pads_S1024_S1024_000 h_S_)))
    (broadcastInDim S1024x1024 ![] bcast_S_S1024x1024 (constant S_ .f32 0x00000000#32))

/-- One over each of a vector's entries. -/
def recip (d : FVec Ideal S1024 .f32) : FVec Ideal S1024 .f32 := fun i => Ideal.div 1 (d i)

/-- The sums of a matrix's columns. -/
def cols (h : FVec Ideal S1024x1024 .f32) : FVec Ideal S1024 .f32 := Host.reduceAdd h (constant S_ .f32 0x00000000#32) reducesTo_S1024x1024_S1024_d0 h_S_

/-- The sums of a matrix's rows. -/
def rows (h : FVec Ideal S1024x1024 .f32) : FVec Ideal S1024 .f32 := Host.reduceAdd h (constant S_ .f32 0x00000000#32) reducesTo_S1024x1024_S1024_d1 h_S_

/-- The products of a block through an incidence matrix and the two matrices that normalise it. -/
def through (h c r : FVec Ideal S1024x1024 .f32) (x : FVec Ideal S1024x768 .f32) (w : FVec Ideal S768x159 .f32) : FVec Ideal S1024x159 .f32 :=
  Host.dotGeneral dot_S1024x1024_S1024x159_S1024x159_1_0_0_1_n_n none
    (Host.dotGeneral dot_S1024x1024_S1024x1024_S1024x1024_1_0_0_1_n_n none r h)
    (Host.dotGeneral dot_S1024x1024_S1024x159_S1024x159_1_0_0_1_n_n none
      (transpose S1024x1024 [1, 0] (Host.dotGeneral dot_S1024x1024_S1024x1024_S1024x1024_1_0_0_1_n_n none h c) transposes_S1024x1024_S1024x1024_1_0)
      (Host.dotGeneral dot_S1024x768_S768x159_S1024x159_1_0_0_1_n_n none x w))

/-- The products of a block through an incidence matrix, each degree inverted on a diagonal. -/
def block (h : FVec Ideal S1024x1024 .f32) (x : FVec Ideal S1024x768 .f32) (w : FVec Ideal S768x159 .f32) : FVec Ideal S1024x159 .f32 :=
  through h (diag (recip (cols h))) (diag (recip (rows h))) x w

/-- One batch through the whole block. -/
def whole (x : FVec Ideal S1024x768 .f32) (w : FVec Ideal S768x159 .f32) : FVec Ideal S1024x159 .f32 := block (hyper (top (negDis x))) x w

/-- The rows of one batch. -/
def part0 (x : FVec Ideal S4x1024x768 .f32) : FVec Ideal S1024x768 .f32 :=
  shapeCast S1024x768 (extractStridedSlice S1x1024x768 ![0, 0, 0] x slices_S4x1024x768_S1x1024x768_0_0_0) shapeCasts_S1x1024x768_S1024x768
/-- The rows of the second batch. -/
def part1 (x : FVec Ideal S4x1024x768 .f32) : FVec Ideal S1024x768 .f32 :=
  shapeCast S1024x768 (extractStridedSlice S1x1024x768 ![1, 0, 0] x slices_S4x1024x768_S1x1024x768_1_0_0) shapeCasts_S1x1024x768_S1024x768
/-- The rows of the third batch. -/
def part2 (x : FVec Ideal S4x1024x768 .f32) : FVec Ideal S1024x768 .f32 :=
  shapeCast S1024x768 (extractStridedSlice S1x1024x768 ![2, 0, 0] x slices_S4x1024x768_S1x1024x768_2_0_0) shapeCasts_S1x1024x768_S1024x768
/-- The rows of the fourth batch. -/
def part3 (x : FVec Ideal S4x1024x768 .f32) : FVec Ideal S1024x768 .f32 :=
  shapeCast S1024x768 (extractStridedSlice S1x1024x768 ![3, 0, 0] x slices_S4x1024x768_S1x1024x768_3_0_0) shapeCasts_S1x1024x768_S1024x768

/-- The four batches' results, one below the other. -/
def stack (x : FVec Ideal S4x1024x768 .f32) (w : FVec Ideal S768x159 .f32) : FVec Ideal S4096x159 .f32 :=
  concatenate S4096x159 0 [⟨S1024x159, whole (part0 x) w⟩, ⟨S1024x159, whole (part1 x) w⟩, ⟨S1024x159, whole (part2 x) w⟩, ⟨S1024x159, whole (part3 x) w⟩]
    concatenates_S1024x159_S1024x159_S1024x159_S1024x159_S4096x159_d0

/-- A negated distance: one row's square sum, minus two of the rows' product, the other row's square sum, all negated. -/
theorem negDis_apply (x : FVec Ideal S1024x768 .f32) (i j : Fin 1024) :
    negDis x (ix2 i j) = -((∑ k, x (ix2 i k) * x (ix2 i k) + Ideal.ofBits .f32 0xC0000000#32 * ∑ k, x (ix2 i k) * x (ix2 j k))
      + ∑ k, x (ix2 j k) * x (ix2 j k)) := by
  pointwise [negDis]

/-- The order in which a row's columns are taken: greater entries first. -/
def before (d : FVec Ideal S1024x1024 .f32) (e k k' : Fin 1024) : Bool :=
  FloatOps.cmpfTotal (F := Ideal) (φ := .f32) .gt (d (ix2 e k)) (d (ix2 e k')) == 1#1

/-- That order is the entries' own, reversed. -/
theorem before_iff (d : FVec Ideal S1024x1024 .f32) (e k k' : Fin 1024) : before d e k k' = true ↔ d (ix2 e k') < d (ix2 e k) := by
  have e1 : before d e k k' = (BitVec.ofBool (decide (d (ix2 e k) > d (ix2 e k'))) == 1#1) := rfl
  rw [e1]
  by_cases c : d (ix2 e k') < d (ix2 e k)
  · simp [c]
  · simp [c]

/-- A sort of rows carrying a second matrix, read at one entry of that matrix. -/
theorem sort2_row {α β : Type} (cmp : α × β → α × β → BitVec 1) (x : S1024x1024.Idx → α) (y : S1024x1024.Idx → β) (e a : Fin 1024) :
    (Host.sort2 S1024x1024 1 cmp x y).2 (ix2 e a)
      = y (ix2 e (sortedFrom (fun k k' => cmp (x (ix2 e k), y (ix2 e k)) (x (ix2 e k'), y (ix2 e k')) == 1#1) a)) := by
  have al : ∀ k : Fin 1024, (ix2 e a : S1024x1024.Idx).along 1 k = ix2 e k := fun k => by
    funext b
    fin_cases b <;> rfl
  unfold Host.sort2
  rw [dif_pos (by decide)]
  refine (congrArg y (al _)).trans ?_
  refine congrArg (fun f : Fin 1024 → Fin 1024 → Bool => y (ix2 e (sortedFrom f a))) (funext fun k => funext fun k' => ?_)
  exact congrArg₂ (fun u v => cmp (x u, y u) (x v, y v) == 1#1) (al k) (al k')

/-- A row's picks are the first positions of its sort. -/
theorem top_apply (d : FVec Ideal S1024x1024 .f32) (e : Fin 1024) (s : Fin 2) :
    top d (ix2 e s) = BitVec.ofNat 32 (sortedFrom (before d e) ⟨s.val, by omega⟩).val := by
  pointwise [top, Host.topK]
  rw [sort2_row]
  rfl

/-- An entry of the list is its row's pick, or the row itself. -/
theorem near_apply (t : IVec S1024x2 32) (q : Fin 3072) : near t (ix1 q)
    = if h : q.val % 3 < 2 then t (ix2 ⟨q.val / 3, by omega⟩ ⟨q.val % 3, h⟩) else BitVec.ofNat 32 (q.val / 3) := by
  pointwise [near]

/-- Three entries of the list to a hyperedge. -/
theorem edge_apply (q : Fin 3072) : edge (ix1 q) = BitVec.ofNat 32 (q.val / 3) := by
  pointwise [edge]

/-- An index that is not negative stays. -/
theorem wrap_apply (v : IVec S3072 32) (q : Fin 3072) (n : Fin 1024) (h : v (ix1 q) = BitVec.ofNat 32 n.val) : wrap v (ix1 q) = BitVec.ofNat 32 n.val := by
  pointwise [wrap]
  rw [h, Routing.wrap_of_lt]
  rw [BitVec.toNat_ofNat]
  omega

/-- An update's first index word is the row it writes. -/
theorem table_zero (t : IVec S1024x2 32) (q : Fin 3072) : table t (ix2 q 0) = wrap (near t) (ix1 q) := by
  pointwise [table]

/-- An update's second index word is its hyperedge. -/
theorem table_one (t : IVec S1024x2 32) (q : Fin 3072) : table t (ix2 q 1) = wrap edge (ix1 q) := by
  pointwise [table]

/-- An update lands where its two index words say. -/
theorem lands (idx : IVec S3072x2 32) (q : Fin 3072) (i j : Fin 1024) :
    scatter_S1024x1024_S3072x2_S3072_n_01_01_1.resultIdx? (ix1 q) idx = some (ix2 i j)
      ↔ (idx (ix2 q 0)).toInt = i.val ∧ (idx (ix2 q 1)).toInt = j.val := by
  have s0 : scatter_S1024x1024_S3072x2_S3072_n_01_01_1.start (ix1 q) idx 0 = (idx (ix2 q 0)).toInt := by
    unfold ScatterDims.start
    rw [dif_pos (by decide)]
    congr 2
    funext b
    fin_cases b <;> rfl
  have s1 : scatter_S1024x1024_S3072x2_S3072_n_01_01_1.start (ix1 q) idx 1 = (idx (ix2 q 1)).toInt := by
    unfold ScatterDims.start
    rw [dif_pos (by decide)]
    congr 2
    funext b
    fin_cases b <;> rfl
  have w : ∀ a, scatter_S1024x1024_S3072x2_S3072_n_01_01_1.window (ix1 q) a = 0 := fun a => by
    fin_cases a <;> rfl
  rw [Routing.resultIdx?_eq_some]
  refine ⟨fun h => ⟨?_, ?_⟩, fun h a => ?_⟩
  · have := h 0
    rw [s0, w] at this
    simpa using this
  · have := h 1
    rw [s1, w] at this
    simpa using this
  · rw [w]
    fin_cases a
    · simpa using s0.trans h.1
    · simpa using s1.trans h.2

/-- Ones set at the picks and the diagonal are the incidence matrix. -/
theorem hyper_apply (t : IVec S1024x2 32) (p1 p2 : Fin 1024 → Fin 1024) (h1 : ∀ e, t (ix2 e 0) = BitVec.ofNat 32 (p1 e).val)
    (h2 : ∀ e, t (ix2 e 1) = BitVec.ofNat 32 (p2 e).val) (i j : Fin 1024) : hyper t (ix2 i j) = incidence p1 p2 i j := by
  have L : ∀ (q : Fin 3072) (e n : Fin 1024), q.val / 3 = e.val → near t (ix1 q) = BitVec.ofNat 32 n.val →
      (scatter_S1024x1024_S3072x2_S3072_n_01_01_1.resultIdx? (ix1 q) (table t) = some (ix2 i j) ↔ n = i ∧ e = j) := fun q e n he hn => by
    have big : ∀ m : Fin 1024, (BitVec.ofNat 32 m.val).toInt = m.val := fun m => WordCmp.toInt_ofNat_of_lt (by have := m.isLt; omega)
    rw [lands, table_zero, table_one, wrap_apply (near t) q n hn, wrap_apply edge q e (by rw [edge_apply, he]), big, big]
    simp only [Nat.cast_inj, Fin.ext_iff]
  have N : ∀ (e : Fin 1024), near t (ix1 ⟨3 * e.val, by omega⟩) = BitVec.ofNat 32 (p1 e).val
      ∧ near t (ix1 ⟨3 * e.val + 1, by omega⟩) = BitVec.ofNat 32 (p2 e).val ∧ near t (ix1 ⟨3 * e.val + 2, by omega⟩) = BitVec.ofNat 32 e.val := fun e => by
    refine ⟨?_, ?_, ?_⟩
    · rw [near_apply, dif_pos (by show 3 * e.val % 3 < 2; omega), ← h1]
      congr 2 <;> apply Fin.ext
      · show 3 * e.val / 3 = e.val
        omega
      · show 3 * e.val % 3 = 0
        omega
    · rw [near_apply, dif_pos (by show (3 * e.val + 1) % 3 < 2; omega), ← h2]
      congr 2 <;> apply Fin.ext
      · show (3 * e.val + 1) / 3 = e.val
        omega
      · show (3 * e.val + 1) % 3 = 1
        omega
    · rw [near_apply, dif_neg (by show ¬(3 * e.val + 2) % 3 < 2; omega)]
      congr 1
      show (3 * e.val + 2) / 3 = e.val
      omega
  have one : ∀ k : S3072.Idx, broadcastInDim S3072 ![] bcast_S_S3072 (constant (F := Ideal) S_ .f32 0x3F800000#32) k = (1 : EReal) := fun k => by
    idx_vars k
    pointwise
  unfold hyper incidence
  by_cases c : i = p1 j ∨ i = p2 j ∨ i = j
  · rw [if_pos c]
    rcases c with c | c | c
    · exact Routing.scatter_set_hit _ _ _ _ _ _ (fun k _ => one k) (ix1 ⟨3 * j.val, by omega⟩) ((L _ j _ (by show 3 * j.val / 3 = j.val; omega) (N j).1).2 ⟨c.symm, rfl⟩)
    · exact Routing.scatter_set_hit _ _ _ _ _ _ (fun k _ => one k) (ix1 ⟨3 * j.val + 1, by omega⟩) ((L _ j _ (by show (3 * j.val + 1) / 3 = j.val; omega) (N j).2.1).2 ⟨c.symm, rfl⟩)
    · exact Routing.scatter_set_hit _ _ _ _ _ _ (fun k _ => one k) (ix1 ⟨3 * j.val + 2, by omega⟩) ((L _ j _ (by show (3 * j.val + 2) / 3 = j.val; omega) (N j).2.2).2 ⟨c.symm, rfl⟩)
  · rw [if_neg c, Routing.scatter_set_miss]
    · pointwise
    · intro k
      obtain ⟨q, rfl⟩ : ∃ q : Fin 3072, k = ix1 q := ⟨k 0, eq_ix1 k⟩
      have hq : q.val / 3 < 1024 := by omega
      intro hit
      have cases3 : q = ⟨3 * (q.val / 3), by omega⟩ ∨ q = ⟨3 * (q.val / 3) + 1, by omega⟩ ∨ q = ⟨3 * (q.val / 3) + 2, by omega⟩ := by
        simp only [Fin.ext_iff]
        omega
      rcases cases3 with e | e | e
      · have := (L q ⟨q.val / 3, hq⟩ _ rfl ((congrArg (fun a => near t (ix1 a)) e).trans (N ⟨q.val / 3, hq⟩).1)).1 hit
        exact c (.inl (by rw [← this.2, this.1]))
      · have := (L q ⟨q.val / 3, hq⟩ _ rfl ((congrArg (fun a => near t (ix1 a)) e).trans (N ⟨q.val / 3, hq⟩).2.1)).1 hit
        exact c (.inr (.inl (by rw [← this.2, this.1])))
      · have := (L q ⟨q.val / 3, hq⟩ _ rfl ((congrArg (fun a => near t (ix1 a)) e).trans (N ⟨q.val / 3, hq⟩).2.2)).1 hit
        exact c (.inr (.inr (by rw [← this.2, this.1])))

/-- A diagonal matrix holds the vector where row and column agree and zero elsewhere. -/
theorem diag_apply (d : FVec Ideal S1024 .f32) (i j : Fin 1024) : diag d (ix2 i j) = if i = j then d (ix1 i) else 0 := by
  pointwise [diag]
  have z : IntOp.addi (BitVec.ofNat 32 i.val) 0#32 = BitVec.ofNat 32 i.val := BitVec.add_zero _
  rw [z, WordCmp.cmpi_eq_eq, WordCmp.select_decide]
  simp only [word_inj]

/-- A row's sum. -/
theorem rows_apply (h : FVec Ideal S1024x1024 .f32) (i : Fin 1024) : rows h (ix1 i) = ∑ l, h (ix2 i l) := by
  pointwise [rows]

/-- A column's sum. -/
theorem cols_apply (h : FVec Ideal S1024x1024 .f32) (e : Fin 1024) : cols h (ix1 e) = ∑ l, h (ix2 l e) := by
  pointwise [cols]

/-- One over a row's sum. -/
theorem recip_row (h : FVec Ideal S1024x1024 .f32) (i : Fin 1024) : recip (rows h) (ix1 i) = Ideal.div 1 (∑ l, h (ix2 i l)) :=
  congrArg (Ideal.div 1) (rows_apply h i)

/-- One over a column's sum. -/
theorem recip_col (h : FVec Ideal S1024x1024 .f32) (e : Fin 1024) : recip (cols h) (ix1 e) = Ideal.div 1 (∑ l, h (ix2 l e)) :=
  congrArg (Ideal.div 1) (cols_apply h e)

/-- The block's result: the degree-normalised products. -/
theorem block_apply (h : FVec Ideal S1024x1024 .f32) (x : FVec Ideal S1024x768 .f32) (w : FVec Ideal S768x159 .f32) (i : Fin 1024) (j : Fin 159) :
    block h x w (ix2 i j) = conv (fun a b => h (ix2 a b)) (fun a b => x (ix2 a b)) (fun a b => w (ix2 a b)) i j := by
  pointwise [block, through]
  unfold conv
  refine Finset.sum_congr rfl fun e _ => ?_
  simp only [diag_apply]
  rw [sum_diag_left, recip_row, mul_comm (Ideal.div _ _)]
  congr 1
  refine Finset.sum_congr rfl fun u _ => ?_
  rw [sum_diag_right (fun k => recip _ (ix1 k)) (fun k => h (ix2 u k)), recip_col]

end Cert.ReferenceIdeal.Block
-- ==== Proof.Loop.lean ====
/- The elimination on diagonal matrices: what the loop holds after each of its trips. -/
module

public import proofs.«01_k».proof.Proof.RBlock
public import Idealize.ShloMosaic.Lib.DynamicIndex

@[expose] public section

set_option maxRecDepth 16384

noncomputable section

namespace Cert.ReferenceIdeal.Loop

open Idealize.ShloMosaic Idealize.SL.Sem
open Cert.ReferenceIdeal Cert.ReferenceIdeal.Gen Cert.ReferenceIdeal.Value Cert.Pick

/-- The start of a slice at the loop's number: the number itself, as it is not negative. -/
theorem start_eq (V : Valuation τ sig (Elt Ideal)) (k : ℕ) (hk : k < 1024) (hV : V (Proc.devRef .tc main_v187_2) = fun _ => BitVec.ofNat 32 k) (i : S_.Idx) :
    (select (cmpi .slt (V (Proc.devRef .tc main_v187_2)) (constantI S_ 32 0#32)) (addi (id (V (Proc.devRef .tc main_v187_2))) (constantI S_ 32 1024#32))
      (V (Proc.devRef .tc main_v187_2)) i).toInt = (k : ℤ) := by
  rw [hV]
  exact toInt_wrap_ofNat k (by omega)

/-- The pivots: each matrix's entry at the loop's row and column. -/
theorem pivot_apply (V : Valuation τ sig (Elt Ideal)) (k : Fin 1024) (hV : V (Proc.devRef .tc main_v187_2) = fun _ => BitVec.ofNat 32 k.val) (s : Fin 8) :
    res_main_while0b_v266 V (ix3 s 0 0) = V (Proc.devRef .tc main_v187_3) (ix3 s k k) := by
  unfold res_main_while0b_v266
  rw [Host.dynamicSlice_eq_extractStridedSlice _ _ _ ![0, k.val, k.val] _ (by
    refine ⟨rfl, fun a => ?_⟩
    fin_cases a
    · exact Nat.le_of_eq rfl
    · exact Nat.succ_le_of_lt k.isLt
    · exact Nat.succ_le_of_lt k.isLt)]
  · pointwise
  · intro a
    fin_cases a
    · rfl
    · exact start_eq V k k.isLt hV _
    · exact start_eq V k k.isLt hV _

/-- The factors: each matrix's column at the loop's number. -/
theorem factor_apply (V : Valuation τ sig (Elt Ideal)) (k : Fin 1024) (hV : V (Proc.devRef .tc main_v187_2) = fun _ => BitVec.ofNat 32 k.val) (s : Fin 8) (i : Fin 1024) :
    res_main_while0b_v271 V (ix3 s i 0) = V (Proc.devRef .tc main_v187_3) (ix3 s i k) := by
  unfold res_main_while0b_v271
  rw [Host.dynamicSlice_eq_extractStridedSlice _ _ _ ![0, 0, k.val] _ (by
    refine ⟨rfl, fun a => ?_⟩
    fin_cases a
    · exact Nat.le_of_eq rfl
    · exact Nat.le_of_eq rfl
    · exact Nat.succ_le_of_lt k.isLt)]
  · pointwise
  · intro a
    fin_cases a
    · rfl
    · rfl
    · exact start_eq V k k.isLt hV _

/-- The first side's row over the pivot. -/
theorem rowA_apply (V : Valuation τ sig (Elt Ideal)) (k : Fin 1024) (hV : V (Proc.devRef .tc main_v187_2) = fun _ => BitVec.ofNat 32 k.val) (s : Fin 8) (j : Fin 1024) :
    res_main_while0b_v278 V (ix3 s 0 j) = Ideal.div (V (Proc.devRef .tc main_v187_3) (ix3 s k j)) (V (Proc.devRef .tc main_v187_3) (ix3 s k k)) := by
  unfold res_main_while0b_v278
  rw [Host.dynamicSlice_eq_extractStridedSlice _ _ _ ![0, k.val, 0] _ (by
    refine ⟨rfl, fun a => ?_⟩
    fin_cases a
    · exact Nat.le_of_eq rfl
    · exact Nat.succ_le_of_lt k.isLt
    · exact Nat.le_of_eq rfl)]
  · pointwise
    rw [pivot_apply V k hV]
  · intro a
    fin_cases a
    · rfl
    · exact start_eq V k k.isLt hV _
    · rfl

/-- The second side's row over the pivot. -/
theorem rowB_apply (V : Valuation τ sig (Elt Ideal)) (k : Fin 1024) (hV : V (Proc.devRef .tc main_v187_2) = fun _ => BitVec.ofNat 32 k.val) (s : Fin 8) (j : Fin 1024) :
    res_main_while0b_v285 V (ix3 s 0 j) = Ideal.div (V (Proc.devRef .tc main_v187_4) (ix3 s k j)) (V (Proc.devRef .tc main_v187_3) (ix3 s k k)) := by
  unfold res_main_while0b_v285
  rw [Host.dynamicSlice_eq_extractStridedSlice _ _ _ ![0, k.val, 0] _ (by
    refine ⟨rfl, fun a => ?_⟩
    fin_cases a
    · exact Nat.le_of_eq rfl
    · exact Nat.succ_le_of_lt k.isLt
    · exact Nat.le_of_eq rfl)]
  · pointwise
    rw [pivot_apply V k hV]
  · intro a
    fin_cases a
    · rfl
    · exact start_eq V k k.isLt hV _
    · rfl

/-- What the loop holds before its trip `k`, on diagonals `d`: the rows' numbers, the trip's number, the first side with its first
    `k` diagonal entries over themselves, the second with its first `k` over the first's. -/
structure Holds (d : Fin 8 → Fin 1024 → EReal) (k : ℕ) (V : Valuation τ sig (Elt Ideal)) : Prop where
  row : ∀ i : Fin 1024, V (Proc.devRef .tc main_v187_0) (ix3 0 i 0) = BitVec.ofNat 32 i.val
  trip : V (Proc.devRef .tc main_v187_2) = fun _ => BitVec.ofNat 32 k
  left : ∀ (s : Fin 8) (i j : Fin 1024), V (Proc.devRef .tc main_v187_3) (ix3 s i j) = if i = j then (if i.val < k then Ideal.div (d s i) (d s i) else d s i) else 0
  right : ∀ (s : Fin 8) (i j : Fin 1024), V (Proc.devRef .tc main_v187_4) (ix3 s i j) = if i = j then (if i.val < k then Ideal.div 1 (d s i) else 1) else 0

/-- An entry less the factor's share of the pivot's row. -/
abbrev less (a f r : EReal) : EReal := a - f * r

/-- Zero over a number that is not zero. -/
theorem zero_div {p : EReal} (h : p ≠ 0) : Ideal.div 0 p = 0 := by
  unfold Ideal.div
  rw [if_neg h, zero_mul]

/-- One entry of one elimination: the pivot's row is divided, and of a diagonal matrix every other row stays. -/
theorem eliminate (e : Fin 1024 → Fin 1024 → EReal) (a : Fin 1024 → EReal) (p : EReal) (k : Fin 1024) (hp : p ≠ 0)
    (he : ∀ i j, e i j = if i = j then a i else 0) (g : Fin 1024 → EReal) (hg : ∀ i, i ≠ k → g i = 0) (i j : Fin 1024) :
    (if i = k then Ideal.div (e k j) p else less (e i j) (g i) (Ideal.div (e k j) p)) = if i = j then (if i = k then Ideal.div (a i) p else a i) else 0 := by
  by_cases hi : i = k
  · subst hi
    rw [if_pos rfl, he]
    by_cases hj : i = j
    · rw [if_pos hj, if_pos hj, if_pos rfl]
    · rw [if_neg hj, if_neg hj, zero_div hp]
  · rw [if_neg hi, less, hg i hi, zero_mul, sub_zero, he, if_neg hi]

/-- The first side after one trip, at an index. -/
theorem stepA_apply (V : Valuation τ sig (Elt Ideal)) (k : Fin 1024) (hr : ∀ i : Fin 1024, V (Proc.devRef .tc main_v187_0) (ix3 0 i 0) = BitVec.ofNat 32 i.val)
    (hV : V (Proc.devRef .tc main_v187_2) = fun _ => BitVec.ofNat 32 k.val) (s : Fin 8) (i j : Fin 1024) :
    step_main_v187_3 V (ix3 s i j) = if i = k then Ideal.div (V (Proc.devRef .tc main_v187_3) (ix3 s k j)) (V (Proc.devRef .tc main_v187_3) (ix3 s k k))
      else less (V (Proc.devRef .tc main_v187_3) (ix3 s i j)) (V (Proc.devRef .tc main_v187_3) (ix3 s i k))
        (Ideal.div (V (Proc.devRef .tc main_v187_3) (ix3 s k j)) (V (Proc.devRef .tc main_v187_3) (ix3 s k k))) := by
  unfold step_main_v187_3
  rw [id_eq]
  pointwise
  rw [rowA_apply V k hV, factor_apply V k hV, hr, hV, WordCmp.cmpi_eq_eq, WordCmp.select_decide]
  simp only [id_eq, word_inj]

/-- The second side after one trip, at an index. -/
theorem stepB_apply (V : Valuation τ sig (Elt Ideal)) (k : Fin 1024) (hr : ∀ i : Fin 1024, V (Proc.devRef .tc main_v187_0) (ix3 0 i 0) = BitVec.ofNat 32 i.val)
    (hV : V (Proc.devRef .tc main_v187_2) = fun _ => BitVec.ofNat 32 k.val) (s : Fin 8) (i j : Fin 1024) :
    step_main_v187_4 V (ix3 s i j) = if i = k then Ideal.div (V (Proc.devRef .tc main_v187_4) (ix3 s k j)) (V (Proc.devRef .tc main_v187_3) (ix3 s k k))
      else less (V (Proc.devRef .tc main_v187_4) (ix3 s i j)) (V (Proc.devRef .tc main_v187_3) (ix3 s i k))
        (Ideal.div (V (Proc.devRef .tc main_v187_4) (ix3 s k j)) (V (Proc.devRef .tc main_v187_3) (ix3 s k k))) := by
  unfold step_main_v187_4
  rw [id_eq]
  pointwise
  rw [rowB_apply V k hV, factor_apply V k hV, hr, hV, WordCmp.cmpi_eq_eq, WordCmp.select_decide]
  simp only [id_eq, word_inj]

/-- One trip takes what the loop holds to the next. -/
theorem holds_step (d : Fin 8 → Fin 1024 → EReal) (hd : ∀ s i, d s i ≠ 0) (k : ℕ) (hk : k < 1024) (V : Valuation τ sig (Elt Ideal)) (h : Holds d k V) :
    Holds d (k + 1) (STEP V) := by
  have piv : ∀ s, V (Proc.devRef .tc main_v187_3) (ix3 s (⟨k, hk⟩ : Fin 1024) ⟨k, hk⟩) = d s ⟨k, hk⟩ := fun s => by
    rw [h.left, if_pos rfl, if_neg (lt_irrefl k)]
  have col : ∀ s i, i ≠ (⟨k, hk⟩ : Fin 1024) → V (Proc.devRef .tc main_v187_3) (ix3 s i ⟨k, hk⟩) = (0 : EReal) := fun s i hi => by
    rw [h.left, if_neg hi]
  have next : ∀ (i : Fin 1024) (u v w : EReal), (i.val = k → w = v) →
      (if i = (⟨k, hk⟩ : Fin 1024) then w else if i.val < k then v else u) = if i.val < k + 1 then v else u := fun i u v w hw => by
    by_cases c : i.val = k
    · rw [if_pos (Fin.ext c), if_pos (by omega), hw c]
    · rw [if_neg (fun e => c (congrArg Fin.val e))]
      by_cases b : i.val < k
      · rw [if_pos b, if_pos (by omega)]
      · rw [if_neg b, if_neg (by omega)]
  refine ⟨fun i => ?_, ?_, fun s i j => ?_, fun s i j => ?_⟩
  · rw [STEP_main_v187_0, h.row]
  · rw [STEP_main_v187_2]
    unfold step_main_v187_2
    rw [h.trip]
    funext i
    exact (BitVec.ofNat_add k 1).symm
  · rw [STEP_main_v187_3, stepA_apply V ⟨k, hk⟩ h.row h.trip, piv,
      eliminate (fun i j => V (Proc.devRef .tc main_v187_3) (ix3 s i j)) _ _ ⟨k, hk⟩ (hd s _) (h.left s) (fun i => V (Proc.devRef .tc main_v187_3) (ix3 s i ⟨k, hk⟩)) (col s), next]
    intro c
    obtain rfl : i = ⟨k, hk⟩ := Fin.ext c
    rw [if_neg (lt_irrefl k)]
  · rw [STEP_main_v187_4, stepB_apply V ⟨k, hk⟩ h.row h.trip, piv,
      eliminate (fun i j => V (Proc.devRef .tc main_v187_4) (ix3 s i j)) _ _ ⟨k, hk⟩ (hd s _) (h.right s) (fun i => V (Proc.devRef .tc main_v187_3) (ix3 s i ⟨k, hk⟩)) (col s), next]
    intro c
    obtain rfl : i = ⟨k, hk⟩ := Fin.ext c
    rw [if_neg (lt_irrefl k)]

/-- All the trips. -/
theorem holds_all (d : Fin 8 → Fin 1024 → EReal) (hd : ∀ s i, d s i ≠ 0) (V : Valuation τ sig (Elt Ideal)) (h : Holds d 0 V) : ∀ k, k ≤ 1024 → Holds d k (STEP^[k] V)
  | 0, _ => h
  | k + 1, hk => by
    rw [Function.iterate_succ_apply']
    exact holds_step d hd k (by omega) _ (holds_all d hd V h k (by omega))

end Cert.ReferenceIdeal.Loop
-- ==== Proof.Norm.lean ====
/- The normalisation: the kernel's over one array, the reference's over the same with a unit axis. -/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.ReferenceIdeal.Norm

open Idealize.ShloMosaic Idealize.SL.Sem
open Cert.ReferenceIdeal Cert.ReferenceIdeal.Gen Cert.ReferenceIdeal.Value

/-- The channels' means, as the reference computes them. -/
def mean (z : FVec Ideal S4x159x1024x1 .f32) : FVec Ideal S1x159x1x1 .f32 :=
  Host.divf (broadcastInDim S1x159x1x1 ![1] bcast_S159_S1x159x1x1_1 (Host.reduceAdd z (constant S_ .f32 0x00000000#32) reducesTo_S4x159x1024x1_S159_d0_2_3 h_S_))
    (broadcastInDim S1x159x1x1 ![] bcast_S_S1x159x1x1 (constant S_ .f32 0x45800000#32))

/-- The entries less their channel's mean. -/
def centred (z : FVec Ideal S4x159x1024x1 .f32) : FVec Ideal S4x159x1024x1 .f32 :=
  subf z (broadcastInDim S4x159x1024x1 ![0, 1, 2, 3] bcast_S1x159x1x1_S4x159x1024x1_0_1_2_3 (mean z))

/-- The count that the variance is divided by. -/
def count : FVec Ideal S_ .f32 := subf (constant S_ .f32 0x45800000#32) (sitofp .f32 (constantI S_ 32 0#32))

/-- The channels' variances, guarded by the count. -/
def variance (z : FVec Ideal S4x159x1024x1 .f32) : FVec Ideal S1x159x1x1 .f32 :=
  select (broadcastInDim S1x159x1x1 ![] bcast_S_S1x159x1x1 (cmpf .ogt count (constant S_ .f32 0x00000000#32)))
    (Host.divf (broadcastInDim S1x159x1x1 ![1] bcast_S159_S1x159x1x1_1
        (Host.reduceAdd (mulf (centred z) (centred z)) (constant S_ .f32 0x00000000#32) reducesTo_S4x159x1024x1_S159_d0_2_3 h_S_))
      (broadcastInDim S1x159x1x1 ![] bcast_S_S1x159x1x1 count))
    (broadcastInDim S1x159x1x1 ![] bcast_S_S1x159x1x1 (id (constant S_ .f32 0x7FC00000#32)))

/-- The reference's normalisation, scale, shift and rectification. -/
def norm (z : FVec Ideal S4x159x1024x1 .f32) (g b : FVec Ideal S159 .f32) : FVec Ideal S4x159x1024x1 .f32 :=
  maximumf (addf (mulf (Host.divf (centred z) (broadcastInDim S4x159x1024x1 ![0, 1, 2, 3] bcast_S1x159x1x1_S4x159x1024x1_0_1_2_3
        (Host.sqrt (addf (variance z) (broadcastInDim S1x159x1x1 ![] bcast_S_S1x159x1x1 (constant S_ .f32 0x3727C5AC#32))))))
      (broadcastInDim S4x159x1024x1 ![0, 1, 2, 3] bcast_S1x159x1x1_S4x159x1024x1_0_1_2_3 (broadcastInDim S1x159x1x1 ![1] bcast_S159_S1x159x1x1_1 g)))
    (broadcastInDim S4x159x1024x1 ![0, 1, 2, 3] bcast_S1x159x1x1_S4x159x1024x1_0_1_2_3 (broadcastInDim S1x159x1x1 ![1] bcast_S159_S1x159x1x1_1 b)))
    (broadcastInDim S4x159x1024x1 ![] bcast_S_S4x159x1024x1 (constant S_ .f32 0x00000000#32))

/-- The reference's sums run over the batches and the positions. -/
theorem sum_apply (v : S4x159x1024x1.Idx → EReal) (i : EReal) (c : Fin 159) :
    Ideal.hostReduceAdd reducesTo_S4x159x1024x1_S159_d0_2_3 v i (ix1 c) = i + ∑ a : Fin 4, ∑ n : Fin 1024, v (ix4 a c n 0) := by
  refine congrArg (i + ·) ((Finset.sum_filter_eq_sum_of_fiber _ (fun k : Fin 4 × Fin 1024 => (ix4 k.1 c k.2 0 : S4x159x1024x1.Idx))
    (fun _ _ e => Prod.ext (congrFun e 0) (congrFun e 2)) (fun j => ⟨fun e => ⟨(j 0, j 2), ?_⟩, ?_⟩) v).trans (Fintype.sum_prod_type _))
  · funext b
    fin_cases b
    · rfl
    · exact Fin.ext (congrArg Fin.val (congrFun e 0)).symm
    · rfl
    · exact (Fin.ext (by have : (j 3).val < 1 := (j 3).isLt; show 0 = (j 3).val; omega))
  · rintro ⟨k, rfl⟩
    funext b
    fin_cases b
    rfl

/-- The count is a real number. -/
theorem count_val : Ideal.ofBits .f32 0x45800000#32 = ((4096 : ℝ) : EReal) := by
  simp only [Ideal.ofBits, Ideal.ieee]
  simp
  rw [← EReal.coe_mul]
  norm_num

/-- The small number added to the variances is a positive real. -/
theorem eps_val : ∃ e : ℝ, 0 < e ∧ Ideal.ofBits .f32 0x3727C5AC#32 = (e : EReal) := by
  simp only [Ideal.ofBits, Ideal.ieee]
  simp
  exact ⟨_, by positivity, (EReal.coe_mul _ _).symm⟩

/-- A square is not negative. -/
theorem square_nonneg (x : EReal) : 0 ≤ x * x := by
  induction x with
  | bot => simp
  | top => simp
  | coe r =>
    rw [← EReal.coe_mul]
    exact EReal.coe_nonneg.2 (mul_self_nonneg r)

/-- A mean of numbers that are not negative is not negative. -/
theorem mean_nonneg (x : EReal) (hx : 0 ≤ x) : 0 ≤ Ideal.div x (Ideal.ofBits .f32 0x45800000#32) := by
  rw [count_val]
  unfold Ideal.div
  rw [if_neg (by norm_num)]
  exact EReal.mul_nonneg hx (EReal.inv_nonneg_of_nonneg (EReal.coe_nonneg.2 (by norm_num)))

/-- Division by the square root is multiplication by the reciprocal square root, for a variance and the small number. -/
theorem div_sqrt (d v : EReal) (hv : 0 ≤ v) :
    Ideal.div d (Ideal.sqrt (v + Ideal.ofBits .f32 0x3727C5AC#32)) = d * Ideal.rsqrt (v + Ideal.ofBits .f32 0x3727C5AC#32) := by
  obtain ⟨e, he, h⟩ := eps_val
  rw [h]
  induction v with
  | bot => simp at hv
  | top =>
    rw [EReal.top_add_coe]
    show Ideal.div d ⊤ = d * 0
    unfold Ideal.div
    simp
  | coe r =>
    have hr : 0 ≤ r := EReal.coe_nonneg.1 hv
    rw [← EReal.coe_add]
    have hp : 0 < r + e := by linarith
    show Ideal.div d (if r + e < 0 then ⊥ else ((Real.sqrt (r + e) : ℝ) : EReal)) = d * (if r + e < 0 then ⊥ else if r + e = 0 then ⊤ else (((Real.sqrt (r + e))⁻¹ : ℝ) : EReal))
    rw [if_neg hp.le.not_gt, if_neg hp.le.not_gt, if_neg hp.ne', EReal.coe_inv]
    unfold Ideal.div
    rw [if_neg (fun c => (Real.sqrt_pos.2 hp).ne' (EReal.coe_eq_zero.1 c))]

/-- A channel's mean: its sum over the count. -/
theorem mean_apply (z : FVec Ideal S4x159x1024x1 .f32) (c : Fin 159) :
    mean z (ix4 0 c 0 0) = Ideal.div (∑ a : Fin 4, ∑ n : Fin 1024, z (ix4 a c n 0)) (Ideal.ofBits .f32 0x45800000#32) := by
  pointwise [mean]
  rw [sum_apply, zero_add]

/-- An entry less its channel's mean. -/
theorem centred_apply (z : FVec Ideal S4x159x1024x1 .f32) (a : Fin 4) (c : Fin 159) (n : Fin 1024) :
    centred z (ix4 a c n 0) = z (ix4 a c n 0) - mean z (ix4 0 c 0 0) := by
  pointwise [centred]

/-- A channel's variance: the squares' sum over the count, which is positive. -/
theorem variance_apply (z : FVec Ideal S4x159x1024x1 .f32) (c : Fin 159) :
    variance z (ix4 0 c 0 0) = Ideal.div (∑ a : Fin 4, ∑ n : Fin 1024, centred z (ix4 a c n 0) * centred z (ix4 a c n 0)) (Ideal.ofBits .f32 0x45800000#32) := by
  pointwise [variance, count]
  have z0 : (FloatOps.sitofp .f32 0#32 : Ideal .f32) = (0 : EReal) := by
    show ((((0#32).toInt : ℝ)) : EReal) = 0
    simp
  rw [sum_apply, zero_add, z0, sub_zero, if_pos (by rw [count_val]; exact EReal.coe_pos.2 (by norm_num))]
  rfl

/-- The reference's result at an entry. -/
theorem norm_apply (z : FVec Ideal S4x159x1024x1 .f32) (g b : FVec Ideal S159 .f32) (a : Fin 4) (c : Fin 159) (n : Fin 1024) :
    norm z g b (ix4 a c n 0) = max (centred z (ix4 a c n 0) * Ideal.rsqrt (variance z (ix4 0 c 0 0) + Ideal.ofBits .f32 0x3727C5AC#32) * g (ix1 c) + b (ix1 c)) 0 := by
  pointwise [norm]
  rw [div_sqrt]
  rw [variance_apply]
  exact mean_nonneg _ (Finset.sum_nonneg fun _ _ => Finset.sum_nonneg fun _ _ => square_nonneg _)

end Cert.ReferenceIdeal.Norm

namespace Cert.KernelIdeal.Norm

open Idealize.ShloMosaic Idealize.SL.Sem
open Cert.KernelIdeal Cert.KernelIdeal.Gen

/-- The kernel's sums run over the batches and the positions. -/
theorem sum_apply (v : S4x159x1024.Idx → EReal) (c : Fin 159) :
    Ideal.reduceAdd reduces_S4x159x1024_S159 v (ix1 c) = ∑ a : Fin 4, ∑ n : Fin 1024, v (ix3 a c n) := by
  refine (Finset.sum_filter_eq_sum_of_fiber _ (fun k : Fin 4 × Fin 1024 => (ix3 k.1 c k.2 : S4x159x1024.Idx))
    (fun _ _ e => Prod.ext (congrFun e 0) (congrFun e 2)) (fun j => ⟨fun e => ⟨(j 0, j 2), ?_⟩, ?_⟩) v).trans (Fintype.sum_prod_type _)
  · funext b
    fin_cases b
    · rfl
    · exact Fin.ext (congrArg Fin.val (congrFun e 0)).symm
    · rfl
  · rintro ⟨k, rfl⟩
    funext b
    fin_cases b
    rfl

/-- The kernel's normalisation of an array is the reference's of the same with a unit axis. -/
theorem norm_eq (y : FVec Ideal S4x159x1024 .f32) (z : FVec Ideal S4x159x1024x1 .f32) (g b : FVec Ideal S159 .f32)
    (h : ∀ a c n, z (ix4 a c n 0) = y (ix3 a c n)) :
    shapeCast S4x159x1024x1 (k1_pay1 (F := Ideal) y (shapeCast S159x1 g shapeCasts_S159_S159x1) (shapeCast S159x1 b shapeCasts_S159_S159x1)) shapeCasts_S4x159x1024_S4x159x1024x1
      = Cert.ReferenceIdeal.Norm.norm z g b := by
  funext j
  obtain ⟨a, c, n, rfl⟩ : ∃ (a : Fin 4) (c : Fin 159) (n : Fin 1024), j = ix4 a c n 0 := ⟨j 0, j 1, j 2, by
    refine (eq_ix4 j).trans (congrArg (ix4 (j 0) (j 1) (j 2)) (Fin.ext ?_))
    have : (j 3).val < 1 := (j 3).isLt
    show (j 3).val = 0
    omega⟩
  rw [Cert.ReferenceIdeal.Norm.norm_apply, Cert.ReferenceIdeal.Norm.variance_apply]
  simp only [Cert.ReferenceIdeal.Norm.centred_apply, Cert.ReferenceIdeal.Norm.mean_apply, h]
  pointwise [k1_pay1, sum_apply]

/-- Both regroupings of the stacked rows hold the same entries. -/
theorem regroup (C : FVec Ideal S4x1024x159 .f32) (S : FVec Ideal Cert.ReferenceIdeal.S4096x159 .f32)
    (h : ∀ (a : Fin 4) (i : Fin 1024) (j : Fin 159), C (ix3 a i j) = S (ix2 ⟨a.val * 1024 + i.val, by omega⟩ j)) (a : Fin 4) (c : Fin 159) (n : Fin 1024) :
    shapeCast S4x159x1024x1 S Cert.ReferenceIdeal.Gen.shapeCasts_S4096x159_S4x159x1024x1 (ix4 a c n 0)
      = shapeCast S4x159x1024 C shapeCasts_S4x1024x159_S4x159x1024 (ix3 a c n) := by
  pointwise
  rw [h]
  congr 2
  apply Fin.ext
  show (a.val * 162816 + c.val * 1024 + n.val) / 159 = a.val * 1024 + (a.val * 162816 + c.val * 1024 + n.val) / 159 % 1024
  omega

end Cert.KernelIdeal.Norm

end
-- ==== Proof.Read.lean ====
/- The stretches before and after the loop, read back. -/
module

public import proofs.«01_k».proof.Proof.RBlock
public import proofs.«01_k».proof.Proof.Norm
public import Idealize.ShloMosaic.Lib.StableHlo.RunRead

@[expose] public section

set_option maxRecDepth 100000

noncomputable section

namespace Cert.ReferenceIdeal.Read

open Idealize.ShloMosaic Idealize.ShloMosaic.StableHlo Idealize.SL.Sem
open Cert.ReferenceIdeal Cert.ReferenceIdeal.Gen Cert.ReferenceIdeal.Value Cert.ReferenceIdeal.Block

/-- The table of the two index columns. -/
def pair (a b : IVec S3072x1 32) : IVec S3072x2 32 :=
  concatenate S3072x2 1 [⟨S3072x1, a⟩, ⟨S3072x1, b⟩] concatenates_S3072x1_S3072x1_S3072x2_d1

/-- That table named. -/
theorem pair_fold (a b : IVec S3072x1 32) :
    concatenate S3072x2 1 [⟨S3072x1, a⟩, ⟨S3072x1, b⟩] concatenates_S3072x1_S3072x1_S3072x2_d1 = pair a b := rfl

/-- The picks beside the rows themselves. -/
def triple (a : IVec S1024x2 32) (b : IVec S1024x1 32) : IVec S1024x3 32 :=
  concatenate S1024x3 1 [⟨S1024x2, a⟩, ⟨S1024x1, b⟩] concatenates_S1024x2_S1024x1_S1024x3_d1

/-- That matrix named. -/
theorem triple_fold (a : IVec S1024x2 32) (b : IVec S1024x1 32) :
    concatenate S1024x3 1 [⟨S1024x2, a⟩, ⟨S1024x1, b⟩] concatenates_S1024x2_S1024x1_S1024x3_d1 = triple a b := rfl

variable (V : Valuation τ sig (Elt Ideal))

/-- The rows of all batches after the first stretch. -/
theorem first_x : after hostOps0 V (Proc.devRef .tc main_v0) = shapeCast S4x1024x768 (V (Proc.devRef .tc main_arg0)) shapeCasts_S4x768x1024_S4x1024x768 := by
  after_reads_simp
  rfl

/-- Batch 0's incidence matrix after the first stretch. -/
theorem first_h0 : after hostOps0 V (Proc.devRef .tc main_v38) = hyper (top (negDis (part0 (shapeCast S4x1024x768 (V (Proc.devRef .tc main_arg0)) shapeCasts_S4x768x1024_S4x1024x768)))) := by
  after_reads_simp
  rw [pair_fold]
  after_reads_simp
  simp only [triple_fold]
  after_reads_simp
  rfl

/-- Batch 1's incidence matrix after the first stretch. -/
theorem first_h1 : after hostOps0 V (Proc.devRef .tc main_v76) = hyper (top (negDis (part1 (shapeCast S4x1024x768 (V (Proc.devRef .tc main_arg0)) shapeCasts_S4x768x1024_S4x1024x768)))) := by
  after_reads_simp
  rw [pair_fold]
  after_reads_simp
  simp only [triple_fold]
  after_reads_simp
  rfl

/-- Batch 2's incidence matrix after the first stretch. -/
theorem first_h2 : after hostOps0 V (Proc.devRef .tc main_v114) = hyper (top (negDis (part2 (shapeCast S4x1024x768 (V (Proc.devRef .tc main_arg0)) shapeCasts_S4x768x1024_S4x1024x768)))) := by
  after_reads_simp
  rw [pair_fold]
  after_reads_simp
  simp only [triple_fold]
  after_reads_simp
  rfl

/-- Batch 3's incidence matrix after the first stretch. -/
theorem first_h3 : after hostOps0 V (Proc.devRef .tc main_v152) = hyper (top (negDis (part3 (shapeCast S4x1024x768 (V (Proc.devRef .tc main_arg0)) shapeCasts_S4x768x1024_S4x1024x768)))) := by
  after_reads_simp
  rw [pair_fold]
  after_reads_simp
  simp only [triple_fold]
  after_reads_simp
  rfl

/-- The first batch's degrees after the first stretch. -/
theorem first_d : after hostOps0 V (Proc.devRef .tc main_v153) = cols (after hostOps0 V (Proc.devRef .tc main_v38)) := by
  after_reads_simp
  rfl

/-- The stretches between the first and the loop. -/
abbrev restI : List (List (HloOp τ sig (Elt Ideal))) := [hostOps0_1, hostOps0_2, hostOps0_3, hostOps0_4, hostOps0_5, hostOps0_6, hostOps0_7, hostOps0_8,
  hostOps0_9, hostOps0_10, hostOps0_11, hostOps0_12, hostOps0_13, hostOps0_14, hostOps0_15, hostOps0_16]

/-- A matrix as a stack of one. -/
def lift (a : FVec Ideal S1024x1024 .f32) : FVec Ideal S1x1024x1024 .f32 := broadcastInDim S1x1024x1024 ![1, 2] bcast_S1024x1024_S1x1024x1024_1_2 a

/-- Eight matrices, stacked. -/
def octet (a b c d e f g h : FVec Ideal S1x1024x1024 .f32) : FVec Ideal S8x1024x1024 .f32 :=
  concatenate S8x1024x1024 0 [⟨S1x1024x1024, a⟩, ⟨S1x1024x1024, b⟩, ⟨S1x1024x1024, c⟩, ⟨S1x1024x1024, d⟩, ⟨S1x1024x1024, e⟩, ⟨S1x1024x1024, f⟩,
    ⟨S1x1024x1024, g⟩, ⟨S1x1024x1024, h⟩] concatenates_S1x1024x1024_S1x1024x1024_S1x1024x1024_S1x1024x1024_S1x1024x1024_S1x1024x1024_S1x1024x1024_S1x1024x1024_S8x1024x1024_d0

/-- The last of those stretches stacks the eight matrices. -/
theorem last_left : after hostOps0_16 V (Proc.devRef .tc main_v187_3)
    = octet (lift (V (Proc.devRef .tc main_v154))) (lift (V (Proc.devRef .tc main_v156))) (lift (V (Proc.devRef .tc main_v158))) (lift (V (Proc.devRef .tc main_v160)))
      (lift (V (Proc.devRef .tc main_v162))) (lift (V (Proc.devRef .tc main_v164))) (lift (V (Proc.devRef .tc main_v166))) (lift (V (Proc.devRef .tc main_v168))) := by
  after_reads_simp
  rfl

/-- The eight diagonal matrices, stacked. -/
def eight (d : FVec Ideal S1024 .f32) (h0 h1 h2 h3 : FVec Ideal S1024x1024 .f32) : FVec Ideal S8x1024x1024 .f32 :=
  octet (lift (diag d)) (lift (diag (rows h0))) (lift (diag (cols h1))) (lift (diag (rows h1))) (lift (diag (cols h2))) (lift (diag (rows h2)))
    (lift (diag (cols h3))) (lift (diag (rows h3)))

/-- The identity, eight times. -/
def eye : FVec Ideal S8x1024x1024 .f32 := broadcastInDim S8x1024x1024 ![1, 2] bcast_S1024x1024_S8x1024x1024_1_2
  (uitofp .f32 (cmpi .eq (addi (iotaInDim S1024x1024 32 0) (broadcastInDim S1024x1024 ![] bcast_S_S1024x1024 (constantI S_ 32 0#32))) (iotaInDim S1024x1024 32 1)))

/-- The loop's first side at its entry. -/
theorem rest_left : afterL restI V (Proc.devRef .tc main_v187_3)
    = eight (V (Proc.devRef .tc main_v153)) (V (Proc.devRef .tc main_v38)) (V (Proc.devRef .tc main_v76)) (V (Proc.devRef .tc main_v114)) (V (Proc.devRef .tc main_v152)) := by
  simp only [restI, afterL_cons, afterL_nil]
  rw [last_left]
  after_reads_simp
  rfl

/-- The loop's second side at its entry. -/
theorem rest_right : afterL restI V (Proc.devRef .tc main_v187_4) = eye := by
  simp only [restI, afterL_cons, afterL_nil]
  after_reads_simp
  rfl

/-- The rows' numbers at the loop's entry. -/
theorem rest_rows : afterL restI V (Proc.devRef .tc main_v187_0) = broadcastInDim S1x1024x1 ![1] bcast_S1024_S1x1024x1_1 (iotaInDim S1024 32 0) := by
  simp only [restI, afterL_cons, afterL_nil]
  after_reads_simp
  rfl

/-- The trip's number at the loop's entry. -/
theorem rest_trip : afterL restI V (Proc.devRef .tc main_v187_2) = constantI S_ 32 0#32 := by
  simp only [restI, afterL_cons, afterL_nil]
  after_reads_simp
  rfl

/-- The buffers that neither those stretches nor the loop write. -/
abbrev kept : List (Ref sig .tc) := [main_v38, main_v76, main_v114, main_v152, main_v0, main_arg0, main_arg1, main_arg2, main_arg3]

/-- Those stretches leave them. -/
theorem rest_keeps : ∀ b ∈ kept, afterL restI V (Proc.devRef .tc b) = V (Proc.devRef .tc b) := by
  simp only [restI, afterL_cons, afterL_nil, List.forall_mem_cons]
  refine ⟨?_, ?_, ?_, ?_, ?_, ?_, ?_, ?_, ?_, by simp⟩ <;> after_reads_simp

/-- One trip leaves them. -/
theorem trip_keeps : ∀ b ∈ kept, afterL bodyI (after condOps V) (Proc.devRef .tc b) = V (Proc.devRef .tc b) := by
  simp only [bodyI, afterL_cons, afterL_nil, List.forall_mem_cons]
  refine ⟨?_, ?_, ?_, ?_, ?_, ?_, ?_, ?_, ?_, by simp⟩ <;> after_reads_simp

/-- The condition leaves them, and the loop's second side. -/
theorem cond_leaves : ∀ b ∈ main_v187_4 :: kept, after condOps V (Proc.devRef .tc b) = V (Proc.devRef .tc b) := by
  simp only [List.forall_mem_cons]
  refine ⟨?_, ?_, ?_, ?_, ?_, ?_, ?_, ?_, ?_, ?_, by simp⟩ <;> after_reads_simp

/-- The arguments. -/
abbrev args : List (Ref sig .tc) := [main_arg0, main_arg1, main_arg2, main_arg3]

/-- The first stretch leaves the arguments. -/
theorem first_keeps : ∀ b ∈ args, after hostOps0 V (Proc.devRef .tc b) = V (Proc.devRef .tc b) := by
  simp only [List.forall_mem_cons]
  refine ⟨?_, ?_, ?_, ?_, by simp⟩ <;> after_reads_simp

/-- The stretches after the loop leave the arguments. -/
theorem post_keeps : ∀ b ∈ args, afterL postI V (Proc.devRef .tc b) = V (Proc.devRef .tc b) := by
  simp only [postI, afterL_cons, afterL_nil, List.forall_mem_cons]
  refine ⟨?_, ?_, ?_, ?_, by simp⟩ <;> after_reads_simp

/-- The four batches' products after the loop. -/
def products : FVec Ideal S4096x159 .f32 :=
  concatenate S4096x159 0 [⟨S1024x159, through (V (Proc.devRef .tc main_v38)) (shapeCast S1024x1024 (extractStridedSlice S1x1024x1024 ![0, 0, 0] (V (Proc.devRef .tc main_v187_4)) slices_S8x1024x1024_S1x1024x1024_0_0_0) shapeCasts_S1x1024x1024_S1024x1024)
      (shapeCast S1024x1024 (extractStridedSlice S1x1024x1024 ![1, 0, 0] (V (Proc.devRef .tc main_v187_4)) slices_S8x1024x1024_S1x1024x1024_1_0_0) shapeCasts_S1x1024x1024_S1024x1024) (part0 (V (Proc.devRef .tc main_v0))) (V (Proc.devRef .tc main_arg1))⟩,
    ⟨S1024x159, through (V (Proc.devRef .tc main_v76)) (shapeCast S1024x1024 (extractStridedSlice S1x1024x1024 ![2, 0, 0] (V (Proc.devRef .tc main_v187_4)) slices_S8x1024x1024_S1x1024x1024_2_0_0) shapeCasts_S1x1024x1024_S1024x1024)
      (shapeCast S1024x1024 (extractStridedSlice S1x1024x1024 ![3, 0, 0] (V (Proc.devRef .tc main_v187_4)) slices_S8x1024x1024_S1x1024x1024_3_0_0) shapeCasts_S1x1024x1024_S1024x1024) (part1 (V (Proc.devRef .tc main_v0))) (V (Proc.devRef .tc main_arg1))⟩,
    ⟨S1024x159, through (V (Proc.devRef .tc main_v114)) (shapeCast S1024x1024 (extractStridedSlice S1x1024x1024 ![4, 0, 0] (V (Proc.devRef .tc main_v187_4)) slices_S8x1024x1024_S1x1024x1024_4_0_0) shapeCasts_S1x1024x1024_S1024x1024)
      (shapeCast S1024x1024 (extractStridedSlice S1x1024x1024 ![5, 0, 0] (V (Proc.devRef .tc main_v187_4)) slices_S8x1024x1024_S1x1024x1024_5_0_0) shapeCasts_S1x1024x1024_S1024x1024) (part2 (V (Proc.devRef .tc main_v0))) (V (Proc.devRef .tc main_arg1))⟩,
    ⟨S1024x159, through (V (Proc.devRef .tc main_v152)) (shapeCast S1024x1024 (extractStridedSlice S1x1024x1024 ![6, 0, 0] (V (Proc.devRef .tc main_v187_4)) slices_S8x1024x1024_S1x1024x1024_6_0_0) shapeCasts_S1x1024x1024_S1024x1024)
      (shapeCast S1024x1024 (extractStridedSlice S1x1024x1024 ![7, 0, 0] (V (Proc.devRef .tc main_v187_4)) slices_S8x1024x1024_S1x1024x1024_7_0_0) shapeCasts_S1x1024x1024_S1024x1024) (part3 (V (Proc.devRef .tc main_v0))) (V (Proc.devRef .tc main_arg1))⟩]
    concatenates_S1024x159_S1024x159_S1024x159_S1024x159_S4096x159_d0

/-- The result after the loop. -/
theorem post_result : afterL postI V (Proc.devRef .tc main_v256)
    = Norm.norm (shapeCast S4x159x1024x1 (products V) shapeCasts_S4096x159_S4x159x1024x1) (V (Proc.devRef .tc main_arg2)) (V (Proc.devRef .tc main_arg3)) := by
  simp only [postI, afterL_cons, afterL_nil]
  after_reads_simp
  rfl

end Cert.ReferenceIdeal.Read
-- ==== Proof.Final.lean ====
/- The reference's run: its result, through all the trips of its loop, and its arguments. -/
module

public import proofs.«01_k».proof.Proof.Loop
public import proofs.«01_k».proof.Proof.Read

@[expose] public section

set_option maxRecDepth 16384

noncomputable section

namespace Cert.ReferenceIdeal.Final

open Idealize.ShloMosaic Idealize.ShloMosaic.StableHlo Idealize.SL.Sem
open Cert.ReferenceIdeal Cert.ReferenceIdeal.Gen Cert.ReferenceIdeal.Value Cert.ReferenceIdeal.Block Cert.ReferenceIdeal.Read Cert.ReferenceIdeal.Loop Cert.Pick

/-- A sum of incidences that holds a one is not zero. -/
theorem sum_ne (f : Fin 1024 → EReal) (h0 : ∀ i, 0 ≤ f i) (e : Fin 1024) (h1 : f e = 1) : ∑ i, f i ≠ 0 := by
  have h : (1 : EReal) ≤ ∑ i, f i := h1 ▸ Finset.single_le_sum (fun i _ => h0 i) (Finset.mem_univ e)
  exact (lt_of_lt_of_le zero_lt_one h).ne'

/-- An incidence is not negative. -/
theorem incidence_nonneg (p1 p2 : Fin 1024 → Fin 1024) (i j : Fin 1024) : 0 ≤ incidence p1 p2 i j := by
  unfold incidence
  split
  · exact zero_le_one
  · exact le_refl 0

/-- A row is incident with its own hyperedge. -/
theorem incidence_self (p1 p2 : Fin 1024 → Fin 1024) (i : Fin 1024) : incidence p1 p2 i i = 1 := if_pos (.inr (.inr rfl))

/-- No degree is zero. -/
theorem degree_ne (y : FVec Ideal S1024x1024 .f32) (i : Fin 1024) : cols (hyper (top y)) (ix1 i) ≠ 0 ∧ rows (hyper (top y)) (ix1 i) ≠ 0 := by
  have inc := hyper_apply (top y) _ _ (fun e => top_apply y e 0) (fun e => top_apply y e 1)
  refine ⟨?_, ?_⟩
  · rw [cols_apply]
    exact sum_ne _ (fun l => by rw [inc]; exact incidence_nonneg ..) i (by rw [inc]; exact incidence_self ..)
  · rw [rows_apply]
    exact sum_ne _ (fun l => by rw [inc]; exact incidence_nonneg ..) i (by rw [inc]; exact incidence_self ..)

/-- The eight diagonals. -/
def degrees (h0 h1 h2 h3 : FVec Ideal S1024x1024 .f32) (s : Fin 8) (i : Fin 1024) : EReal :=
  (![cols h0, rows h0, cols h1, rows h1, cols h2, rows h2, cols h3, rows h3] : Fin 8 → FVec Ideal S1024 .f32) s (ix1 i)

/-- A matrix in a stack of one. -/
theorem lift_diag (d : FVec Ideal S1024 .f32) (i j : Fin 1024) : lift (diag d) (ix3 0 i j) = if i = j then d (ix1 i) else 0 := by
  rw [← diag_apply]
  pointwise [lift]

/-- The stack of the eight diagonal matrices, at an index. -/
theorem eight_apply (h0 h1 h2 h3 : FVec Ideal S1024x1024 .f32) (s : Fin 8) (i j : Fin 1024) :
    eight (cols h0) h0 h1 h2 h3 (ix3 s i j) = if i = j then degrees h0 h1 h2 h3 s i else 0 := by
  unfold eight degrees
  fin_cases s <;> refine Eq.trans ?_ (lift_diag _ i j) <;> pointwise [octet]

/-- The identity, at an index. -/
theorem eye_apply (s : Fin 8) (i j : Fin 1024) : eye (ix3 s i j) = if i = j then (1 : EReal) else 0 := by
  pointwise [eye]
  have z : IntOp.addi (BitVec.ofNat 32 i.val) 0#32 = BitVec.ofNat 32 i.val := BitVec.add_zero _
  rw [z, WordCmp.cmpi_eq_eq]
  simp only [word_inj]
  by_cases c : i = j
  · rw [if_pos c, decide_eq_true c]
    simp [FloatOps.uitofp]
  · rw [if_neg c, decide_eq_false c]
    simp [FloatOps.uitofp]

/-- A slice of the inverses: one over each degree, on a diagonal. -/
theorem slice_eq (B : FVec Ideal S8x1024x1024 .f32) (n : ℕ) (hn : n < 8) (hs : S8x1024x1024.Slices ![n, 0, 0] S1x1024x1024) (v : FVec Ideal S1024 .f32)
    (hB : ∀ i j : Fin 1024, B (ix3 ⟨n, hn⟩ i j) = if i = j then Ideal.div 1 (v (ix1 i)) else 0) :
    shapeCast S1024x1024 (extractStridedSlice S1x1024x1024 ![n, 0, 0] B hs) shapeCasts_S1x1024x1024_S1024x1024 = diag (recip v) := by
  funext q
  idx_vars q
  rw [diag_apply]
  refine Eq.trans ?_ (hB _ _)
  pointwise

variable (m : (ℓ : Loc nD τ sig) → Buf (Elt Ideal) ℓ) (c : Dev nD)

/-- The trips leave the kept buffers. -/
theorem trips_keep : ∀ k, ∀ b ∈ kept, atK m k c (Proc.devRef .tc b) = entryContents preI m c (Proc.devRef .tc b)
  | 0, _, _ => rfl
  | k + 1, b, hb => (trip_keeps (atK m k c) b hb).trans (trips_keep k b hb)

/-- What the stretches after the loop start from. -/
abbrev last : Valuation τ sig (Elt Ideal) := after condOps (atK m 1024 c)

/-- The kept buffers there are as the first stretch left them. -/
theorem last_keeps (b : Ref sig .tc) (hb : b ∈ kept) : last m c (Proc.devRef .tc b) = after hostOps0 (launchContents m c) (Proc.devRef .tc b) :=
  ((cond_leaves (atK m 1024 c) b (List.mem_cons_of_mem _ hb)).trans (trips_keep m c 1024 b hb)).trans (rest_keeps (after hostOps0 (launchContents m c)) b hb)

/-- The arguments there are as launched. -/
theorem last_args (b : Ref sig .tc) (hb : b ∈ args) : last m c (Proc.devRef .tc b) = m ((c.tc : Thread nD τ).loc b) :=
  (last_keeps m c b (by
    have sub : ∀ b ∈ args, b ∈ kept := by decide
    exact sub b hb)).trans (first_keeps (launchContents m c) b hb)

/-- The rows of all batches, from the argument. -/
def input : FVec Ideal S4x1024x768 .f32 := shapeCast S4x1024x768 (m ((c.tc : Thread nD τ).loc main_arg0)) shapeCasts_S4x768x1024_S4x1024x768

/-- A batch's incidence matrix. -/
abbrev inc (x : FVec Ideal S1024x768 .f32) : FVec Ideal S1024x1024 .f32 := hyper (top (negDis x))

/-- The diagonals of the loop. -/
abbrev diags : Fin 8 → Fin 1024 → EReal := degrees (inc (part0 (input m c))) (inc (part1 (input m c))) (inc (part2 (input m c))) (inc (part3 (input m c)))

/-- None of the diagonals holds a zero. -/
theorem diags_ne (s : Fin 8) (i : Fin 1024) : diags m c s i ≠ 0 := by
  unfold diags degrees
  fin_cases s
  · exact (degree_ne _ i).1
  · exact (degree_ne _ i).2
  · exact (degree_ne _ i).1
  · exact (degree_ne _ i).2
  · exact (degree_ne _ i).1
  · exact (degree_ne _ i).2
  · exact (degree_ne _ i).1
  · exact (degree_ne _ i).2

/-- What the loop holds at its entry. -/
theorem holds_entry : Holds (diags m c) 0 (entryContents preI m c) := by
  have e : ∀ b, entryContents preI m c b = afterL restI (after hostOps0 (launchContents m c)) b := fun _ => rfl
  refine ⟨fun i => ?_, ?_, fun s i j => ?_, fun s i j => ?_⟩
  · rw [e, rest_rows]
    pointwise
  · rw [e, rest_trip]
    rfl
  · rw [e, rest_left, first_d, first_h0, first_h1, first_h2, first_h3]
    exact (eight_apply _ _ _ _ s i j).trans (by simp only [Nat.not_lt_zero, if_false]; rfl)
  · rw [e, rest_right]
    exact (eye_apply s i j).trans (by simp only [Nat.not_lt_zero, if_false])

/-- The loop's second side at its end: one over each degree, on the diagonals. -/
theorem last_right (s : Fin 8) (i j : Fin 1024) : last m c (Proc.devRef .tc main_v187_4) (ix3 s i j) = if i = j then Ideal.div 1 (diags m c s i) else 0 := by
  have h := (holds_all (diags m c) (diags_ne m c) _ (holds_entry m c) 1024 (le_refl _)).right s i j
  rw [if_pos i.isLt] at h
  exact (congrFun ((cond_leaves (atK m 1024 c) main_v187_4 List.mem_cons_self).trans (atK_agree m c 1024 main_v187_4 (by decide))) _).trans h

/-- The products after the loop are the blocks'. -/
theorem products_eq : products (last m c) = stack (input m c) (m ((c.tc : Thread nD τ).loc main_arg1)) := by
  unfold products stack whole block
  rw [slice_eq _ 0 (by decide) _ (cols (inc (part0 (input m c)))) (last_right m c 0)]
  rw [slice_eq _ 1 (by decide) _ (rows (inc (part0 (input m c)))) (last_right m c 1)]
  rw [slice_eq _ 2 (by decide) _ (cols (inc (part1 (input m c)))) (last_right m c 2)]
  rw [slice_eq _ 3 (by decide) _ (rows (inc (part1 (input m c)))) (last_right m c 3)]
  rw [slice_eq _ 4 (by decide) _ (cols (inc (part2 (input m c)))) (last_right m c 4)]
  rw [slice_eq _ 5 (by decide) _ (rows (inc (part2 (input m c)))) (last_right m c 5)]
  rw [slice_eq _ 6 (by decide) _ (cols (inc (part3 (input m c)))) (last_right m c 6)]
  rw [slice_eq _ 7 (by decide) _ (rows (inc (part3 (input m c)))) (last_right m c 7)]
  rw [last_keeps m c main_v0 (by decide), last_keeps m c main_v38 (by decide), last_keeps m c main_v76 (by decide), last_keeps m c main_v114 (by decide),
    last_keeps m c main_v152 (by decide), last_args m c main_arg1 (by decide), first_x, first_h0, first_h1, first_h2, first_h3]
  rfl

/-- The result. -/
theorem result : finalContents condOps preI bodyI postI 1024 m c (Proc.devRef .tc main_v256)
    = Norm.norm (shapeCast S4x159x1024x1 (stack (input m c) (m ((c.tc : Thread nD τ).loc main_arg1))) shapeCasts_S4096x159_S4x159x1024x1)
        (m ((c.tc : Thread nD τ).loc main_arg2)) (m ((c.tc : Thread nD τ).loc main_arg3)) := by
  refine (post_result (last m c)).trans ?_
  rw [products_eq, last_args m c main_arg2 (by decide), last_args m c main_arg3 (by decide)]

/-- The arguments at the end. -/
theorem arguments (b : Ref sig .tc) (hb : b ∈ args) : finalContents condOps preI bodyI postI 1024 m c (Proc.devRef .tc b) = m ((c.tc : Thread nD τ).loc b) :=
  (post_keeps (last m c) b hb).trans (last_args m c b hb)

/-- The reference's run: its result named, its arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v256)
        = Norm.norm (shapeCast S4x159x1024x1 (stack (input m c) (m ((c.tc : Thread nD τ).loc main_arg1))) shapeCasts_S4096x159_S4x159x1024x1)
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h c main_v256 (by decide)).trans (result m c), (h c main_arg0 (by decide)).trans (arguments m c main_arg0 (by decide)),
    (h c main_arg1 (by decide)).trans (arguments m c main_arg1 (by decide)), (h c main_arg2 (by decide)).trans (arguments m c main_arg2 (by decide)),
    (h c main_arg3 (by decide)).trans (arguments m c main_arg3 (by decide))⟩) (run_fold m ρ)

/-- The reference has no semaphore. -/
theorem no_sem : ∀ _sm : SemLoc sig, False := by decide

/-- The reference's frame: its arguments end as launched and, as it has no semaphore, every counter is at zero. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c => (h c).2, funext fun g => (no_sem g.2).elim⟩) (run m ρ)

end Cert.ReferenceIdeal.Final
-- ==== Proof.Runs.lean ====
/- The kernel's launch: its run with its result named beside the frame; and the precondition's facts. -/
module

public import proofs.«01_k».proof.Defs
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run: every fair execution ends with the result at the last boundary's contents and the arguments
    as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

namespace Cert.Pre_finite_x

open Idealize.ShloMosaic

/-- The facts the precondition's function states. -/
instance facts : Facts where
  bcast_S_S4x768x1024 := by decide
  reducesTo_S4x768x1024_S_d0_1_2 := by decide
  h_S_ := by decide

end Cert.Pre_finite_x

end
-- ==== Proof.KBlock.lean ====
/- The kernel's block, read at an index. -/
module

public import proofs.«01_k».proof.Proof.Gen.KernelIdeal.Skeleton
public import Idealize.ShloMosaic.Lib.Pointwise
public import Idealize.ShloMosaic.Lib.WordCmp
public import proofs.«01_k».proof.Proof.Pick

@[expose] public section

set_option maxRecDepth 16384

noncomputable section

namespace Cert.KernelIdeal.Block

open Idealize.ShloMosaic Idealize.SL.Sem
open Cert.KernelIdeal Cert.KernelIdeal.Gen Cert.Pick

/-- The squared distances of the block's rows, as the kernel computes them. -/
def dis (x : FVec Ideal S1024x768 .f32) : FVec Ideal S1024x1024 .f32 :=
  have v3 : FVec Ideal S1024 .f32 := multiReduction .add [1] S1024 (mulf x x) 0x00000000#32 reduces_S1024x768_S1024 (.inl rfl) rfl
  addf (subf (broadcastTo S1024x1024 (shapeCast S1024x1 v3 shapeCasts_S1024_S1024x1) broadcasts_S1024x1_S1024x1024)
      (mulf (broadcast S1024x1024 (Scalar.ofBits .f32 0x40000000#32))
        (matmul dot_S1024x768_S768x1024_S1024x1024_1_0_0_1_n_n none x
          (transpose S768x1024 [1, 0] x transposes_S1024x768_p1_0_S768x1024) (constant S1024x1024 .f32 0x00000000#32))))
    (broadcastTo S1024x1024 (shapeCast S1x1024 v3 shapeCasts_S1024_S1x1024) broadcasts_S1x1024_S1024x1024)

/-- Each row's first column holding its least entry, as a word. -/
def firstMin (d : FVec Ideal S1024x1024 .f32) : IVec S1024 32 :=
  multiReductionI .minsi [1] S1024
    (select (cmpf .oeq d (broadcastTo S1024x1024 (shapeCast S1024x1
        (multiReduction .minimumf [1] S1024 d 0x7F800000#32 reduces_S1024x1024_S1024 (.inl rfl) rfl) shapeCasts_S1024_S1024x1)
        broadcasts_S1024x1_S1024x1024))
      (iota .tc S1024x1024 32 [1] iota_S1024x1024_d1_w32) (broadcast S1024x1024 1024#32))
    2147483647#32 reduces_S1024x1024_S1024 rfl

/-- The distances with one column of each row at plus infinity. -/
def mask (d : FVec Ideal S1024x1024 .f32) (w : IVec S1024 32) : FVec Ideal S1024x1024 .f32 :=
  select (cmpi .eq (iota .tc S1024x1024 32 [1] iota_S1024x1024_d1_w32)
      (broadcastTo S1024x1024 (shapeCast S1024x1 w shapeCasts_S1024_S1024x1) broadcasts_S1024x1_S1024x1024))
    (broadcast S1024x1024 (Scalar.ofBits .f32 0x7F800000#32)) d

/-- The incidence matrix of two picks per row and the diagonal. -/
def inc (w1 w2 : IVec S1024 32) : FVec Ideal S1024x1024 .f32 :=
  have r : IVec S1024x1024 32 := iota .tc S1024x1024 32 [0] iota_S1024x1024_d0_w32
  sitofp .f32 (extui 32 (ori (ori
    (cmpi .eq r (broadcastTo S1024x1024 (shapeCast S1x1024 w1 shapeCasts_S1024_S1x1024) broadcasts_S1x1024_S1024x1024))
    (cmpi .eq r (broadcastTo S1024x1024 (shapeCast S1x1024 w2 shapeCasts_S1024_S1x1024) broadcasts_S1x1024_S1024x1024)))
    (cmpi .eq r (iota .tc S1024x1024 32 [1] iota_S1024x1024_d1_w32))) natLt_1_32)

/-- The incidence payload is these steps composed. -/
theorem pay3_eq (v0 : Vec Ideal S1x1024x768 .f32) :
    k0_pay3 (F := Ideal) v0 = inc (firstMin (dis (k0_pay2 v0))) (firstMin (mask (dis (k0_pay2 v0)) (firstMin (dis (k0_pay2 v0))))) := rfl

/-- A distance is one row's square sum less twice the rows' product, plus the other row's square sum. -/
theorem dis_apply (x : FVec Ideal S1024x768 .f32) (i j : Fin 1024) :
    dis x (ix2 i j) = ∑ k, x (ix2 i k) * x (ix2 i k) - Ideal.ofBits .f32 0x40000000#32 * ∑ k, x (ix2 i k) * x (ix2 j k)
      + ∑ k, x (ix2 j k) * x (ix2 j k) := by
  pointwise [dis]

/-- The pick is the row's first least entry. -/
theorem firstMin_apply (d : FVec Ideal S1024x1024 .f32) (i j : Fin 1024) (h : FirstOf (fun _ => True) (fun k => d (ix2 i k)) j) :
    firstMin d (ix1 i) = BitVec.ofNat 32 j.val := by
  pointwise [firstMin]
  rw [show Ideal.ofBits .f32 2139095040#32 = ⊤ by simp [Ideal.ofBits, Ideal.ieee], fold_min_first h]
  exact fold_first h

/-- With the picked column masked, the pick is the first of the others, where that one's entry is below plus infinity. -/
theorem second_apply (d : FVec Ideal S1024x1024 .f32) (w : IVec S1024 32) (i j k : Fin 1024) (hw : w (ix1 i) = BitVec.ofNat 32 j.val)
    (hk : k ≠ j) (h : FirstOf (· ≠ j) (fun k => d (ix2 i k)) k) (hd : d (ix2 i k) < ⊤) :
    firstMin (mask d w) (ix1 i) = BitVec.ofNat 32 k.val := by
  have hm : ∀ l, mask d w (ix2 i l) = if l = j then ⊤ else d (ix2 i l) := fun l => by
    pointwise [mask]
    rw [hw, show Ideal.ofBits .f32 2139095040#32 = ⊤ by simp [Ideal.ofBits, Ideal.ieee], WordCmp.cmpi_eq_eq, WordCmp.select_decide]
    simp only [word_inj]
  refine firstMin_apply _ i k (first_masked hk h hd ?_ fun l hl => ?_)
  · rw [hm, if_pos rfl]
  · rw [hm, if_neg hl]

/-- A condition of three parts, widened and converted, is one where a part holds and zero elsewhere. -/
theorem bit_value (a b c : Bool) :
    (FloatOps.sitofp .f32 ((IntOp.ori (IntOp.ori (BitVec.ofBool a) (BitVec.ofBool b)) (BitVec.ofBool c)).setWidth 32) : Ideal .f32)
      = if (a || b || c) = true then (1 : EReal) else 0 := by
  rw [WordCmp.ori_ofBool, WordCmp.ori_ofBool]
  generalize (a || b || c) = d
  have e : ∀ d : Bool, ((BitVec.ofBool d).setWidth 32).toInt = if d = true then 1 else 0 := by decide
  show ((((BitVec.ofBool d).setWidth 32).toInt : ℝ) : EReal) = _
  rw [e]
  cases d <;> simp

/-- The incidence of row `i` with column `j`: `i` is one of the picks of `j`, or `j` itself. -/
theorem inc_apply (w1 w2 : IVec S1024 32) (p1 p2 : Fin 1024 → Fin 1024) (h1 : ∀ j, w1 (ix1 j) = BitVec.ofNat 32 (p1 j).val)
    (h2 : ∀ j, w2 (ix1 j) = BitVec.ofNat 32 (p2 j).val) (i j : Fin 1024) :
    inc w1 w2 (ix2 i j) = incidence p1 p2 i j := by
  pointwise [inc]
  rw [h1, h2, WordCmp.cmpi_eq_eq, WordCmp.cmpi_eq_eq, WordCmp.cmpi_eq_eq]
  simp only [word_inj]
  refine (bit_value _ _ _).trans ?_
  simp only [incidence, Bool.or_eq_true, decide_eq_true_eq, or_assoc]

/-- The block's result: the incidence scaled by the rows' degrees, times the transposed incidence scaled by the columns', times the product. -/
theorem pay1_apply (x : FVec Ideal S1024x768 .f32) (h : FVec Ideal S1024x1024 .f32) (w : Vec Ideal S768x159 .f32) (i : Fin 1024) (j : Fin 159) :
    k0_pay1 x h w (ix3 0 i j) = conv (fun a b => h (ix2 a b)) (fun a b => x (ix2 a b)) (fun a b => w (ix2 a b)) i j := by
  pointwise [k0_pay1, conv]

end Cert.KernelIdeal.Block

end
-- ==== Proof.Join.lean ====
/- One batch: the kernel's block is the reference's, for entries that are real numbers. -/
module

public import proofs.«01_k».proof.Proof.KBlock
public import proofs.«01_k».proof.Proof.RBlock

@[expose] public section

set_option maxRecDepth 16384

noncomputable section

namespace Cert.Join

open Idealize.ShloMosaic Idealize.SL.Sem
open Cert.KernelIdeal (S1x1024x768 S1024x768 S768x159 S1024x1024)
open Cert.KernelIdeal.Gen (k0_pay1 k0_pay2 k0_pay3)
open Cert.KernelIdeal.Block Cert.ReferenceIdeal.Block Cert.Pick

/-- The kernel's factor. -/
theorem two_val : Ideal.ofBits .f32 0x40000000#32 = ((2 : ℝ) : EReal) := by
  simp only [Ideal.ofBits, Ideal.ieee]
  simp
  rw [← EReal.coe_mul]
  norm_num

/-- The reference's factor is the kernel's negated. -/
theorem minus_two : Ideal.ofBits .f32 0xC0000000#32 = -Ideal.ofBits .f32 0x40000000#32 := by
  simp [Ideal.ofBits, Ideal.ieee]

/-- The reference's negated distances are the kernel's distances negated. -/
theorem dis_neg (x : FVec Ideal S1024x768 .f32) (i j : Fin 1024) : negDis x (ix2 i j) = -dis x (ix2 i j) := by
  rw [dis_apply, negDis_apply, minus_two, EReal.neg_mul, ← sub_eq_add_neg]

/-- A distance between rows of real entries is below plus infinity. -/
theorem dis_lt_top (x : FVec Ideal S1024x768 .f32) (hx : ∀ i k, ∃ r : ℝ, x (ix2 i k) = (r : EReal)) (i j : Fin 1024) : dis x (ix2 i j) < ⊤ := by
  choose r hr using hx
  have s : ∀ a b, ∑ k, x (ix2 a k) * x (ix2 b k) = ((∑ k, r a k * r b k : ℝ) : EReal) := fun a b => by
    rw [Finset.sum_congr rfl fun k _ => show x (ix2 a k) * x (ix2 b k) = ((r a k * r b k : ℝ) : EReal) by rw [hr, hr, EReal.coe_mul]]
    exact (map_sum (⟨⟨Real.toEReal, EReal.coe_zero⟩, EReal.coe_add⟩ : ℝ →+ EReal) _ _).symm
  rw [dis_apply, s, s, s, two_val, ← EReal.coe_mul, ← EReal.coe_sub, ← EReal.coe_add]
  exact EReal.coe_lt_top _

/-- One batch through the kernel's block is that batch through the reference's. -/
theorem block_eq (v : Vec Ideal S1x1024x768 .f32) (w : Vec Ideal S768x159 .f32)
    (hx : ∀ i k, ∃ r : ℝ, k0_pay2 (F := Ideal) v (ix2 i k) = (r : EReal)) (i : Fin 1024) (j : Fin 159) :
    k0_pay1 (k0_pay2 v) (k0_pay3 v) w (ix3 0 i j) = whole (k0_pay2 (F := Ideal) v) w (ix2 i j) := by
  rw [pay3_eq]
  generalize k0_pay2 (F := Ideal) v = x at hx ⊢
  have H := fun e : Fin 1024 => sorted_two (f := fun k => dis x (ix2 e k)) (before := before (negDis x) e) (z := 0) (o := 1)
    (fun a b => by rw [before_iff, dis_neg, dis_neg, EReal.neg_lt_neg_iff]) rfl rfl
  have k1 := fun e => firstMin_apply (dis x) e _ (H e).1
  have k2 := fun e => second_apply (dis x) _ e _ _ (k1 e) (H e).2.2 (H e).2.1 (dis_lt_top x hx e _)
  rw [pay1_apply]
  unfold whole
  rw [block_apply]
  refine congrArg (fun h => conv h (fun a b => x (ix2 a b)) (fun a b => w (ix2 a b)) i j) (funext fun a => funext fun b => ?_)
  rw [inc_apply _ _ _ _ k1 k2, hyper_apply _ _ _ (fun e => top_apply _ e 0) (fun e => top_apply _ e 1)]
  rfl

end Cert.Join

end
-- ==== Proof.KValue.lean ====
/- The kernel's result array, in closed form. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen

/-- One batch as the kernel's block holds it. -/
def batchOf (x : FVec Ideal S4x1024x768 .f32) (b : Fin 4) : Vec Ideal S1x1024x768 .f32 := fun j => x (ix3 b (j 1) (j 2))

/-- The first kernel's result, batch by batch. -/
def convs (x : FVec Ideal S4x1024x768 .f32) (w : Vec Ideal S768x159 .f32) : FVec Ideal S4x1024x159 .f32 := fun j =>
  k0_pay1 (k0_pay2 (batchOf x (j 0))) (k0_pay3 (batchOf x (j 0))) w (ix3 0 (j 1) (j 2))

section Regions

variable (V : (c : Dev nD) → (b : Ref sig .tc) → Buf (Elt Ideal) ((c : Thread nD τ).loc b)) (c : Dev nD)

/-- The first kernel's windows at a point. -/
theorem places : ∀ t : Fin cfg0.N, win0_0.index t = ![(grid0.coords t 0).val, 0, 0] ∧ win0_1.index t = ![0, 0]
    ∧ win0_2.index t = ![(grid0.coords t 0).val, 0, 0] := (by decide +kernel : ∀ t : Fin grid0.N, _)

/-- The first kernel leaves its result array at every batch's block. -/
theorem first : (dat0 V c).arrAt 2 cfg0.N = convs (V c main_v0) (V c main_arg1) := by
  refine (dat0 V c).arrAt_eq_of_covers 2 _ (by decide +kernel) fun t _ y => ?_
  blk_simp
  rw [after0_2]
  frame_out
  have h1 : iblk0 V c 1 t = V c main_arg1 := by blk_ext! [iblk0, places t]
  have h0 : iblk0 V c 0 t = batchOf (V c main_v0) (((cfg0.win 2).blk t).view.emb y 0) := by
    funext z
    unfold batchOf
    blk_ext [iblk0, places t]
  rw [h1, h0]
  unfold convs
  refine congrArg (k0_pay1 _ _ _) ?_
  funext a
  fin_cases a <;> apply Fin.ext
  · show (y 0).val = 0
    have : (y 0).val < 1 := (y 0).isLt
    omega
  · show (y 1).val = (((cfg0.win 2).blk t).view.emb y 1).val
    blk_simp [places t]
    try omega
  · show (y 2).val = (((cfg0.win 2).blk t).view.emb y 2).val
    blk_simp [places t]
    try omega

/-- The second kernel's windows at its one point. -/
theorem places1 : ∀ t : Fin cfg1.N, win1_0.index t = ![0, 0, 0] ∧ win1_1.index t = ![0, 0] ∧ win1_2.index t = ![0, 0] :=
  (by decide +kernel : ∀ t : Fin grid1.N, _)

/-- The second kernel leaves its result array at its one block. -/
theorem second : (dat1 V c).arrAt 3 cfg1.N = k1_pay1 (F := Ideal) (V c main_v2) (V c main_v3) (V c main_v4) := by
  refine (dat1 V c).arrAt_eq_of_after_last 3 t1_0 (by decide +kernel) _ fun j => ?_
  blk_simp
  rw [after1_3]
  frame_out
  have h0 : iblk1 V c 0 t1_0 = V c main_v2 := by blk_ext! [iblk1, places1 t1_0]
  have h1 : iblk1 V c 1 t1_0 = V c main_v3 := by blk_ext! [iblk1, places1 t1_0]
  have h2 : iblk1 V c 2 t1_0 = V c main_v4 := by blk_ext! [iblk1, places1 t1_0]
  rw [h0, h1, h2]

end Regions

/-- The kernel's result from its arguments. -/
def result (x : FVec Ideal S4x768x1024 .f32) (w : FVec Ideal S768x159 .f32) (g b : FVec Ideal S159 .f32) : FVec Ideal S4x159x1024x1 .f32 :=
  shapeCast S4x159x1024x1 (k1_pay1 (F := Ideal) (shapeCast S4x159x1024 (convs (shapeCast S4x1024x768 x shapeCasts_S4x768x1024_S4x1024x768) w) shapeCasts_S4x1024x159_S4x159x1024)
    (shapeCast S159x1 g shapeCasts_S159_S159x1) (shapeCast S159x1 b shapeCasts_S159_S159x1)) shapeCasts_S4x159x1024_S4x159x1024x1

variable (m : (ℓ : Loc nD τ sig) → Buf (Elt Ideal) ℓ) (ρ : Dev nD → PrngReg)

/-- The last boundary holds that result. -/
theorem final (c : Dev nD) : W5 m ρ c (Proc.devRef .tc main_v6)
    = result (m ((c : Thread nD τ).loc main_arg0)) (m ((c : Thread nD τ).loc main_arg1)) (m ((c : Thread nD τ).loc main_arg2)) (m ((c : Thread nD τ).loc main_arg3)) := by
  have e0 : W1 m ρ c (Proc.devRef .tc main_v0) = shapeCast S4x1024x768 (m ((c : Thread nD τ).loc main_arg0)) shapeCasts_S4x768x1024_S4x1024x768 := rfl
  have e1 : W2 m ρ c (Proc.devRef .tc main_v1) = convs (W1 m ρ c (Proc.devRef .tc main_v0)) (W1 m ρ c (Proc.devRef .tc main_arg1)) :=
    (W2_arr m ρ c 2).trans (first (V1 m ρ) c)
  have e2 : W3 m ρ c (Proc.devRef .tc main_v2) = shapeCast S4x159x1024 (W2 m ρ c (Proc.devRef .tc main_v1)) shapeCasts_S4x1024x159_S4x159x1024 := rfl
  have e3 : W3 m ρ c (Proc.devRef .tc main_v3) = shapeCast S159x1 (W2 m ρ c (Proc.devRef .tc main_arg2)) shapeCasts_S159_S159x1 := rfl
  have e4 : W3 m ρ c (Proc.devRef .tc main_v4) = shapeCast S159x1 (W2 m ρ c (Proc.devRef .tc main_arg3)) shapeCasts_S159_S159x1 := rfl
  have e5 : W4 m ρ c (Proc.devRef .tc main_v5)
      = k1_pay1 (F := Ideal) (W3 m ρ c (Proc.devRef .tc main_v2)) (W3 m ρ c (Proc.devRef .tc main_v3)) (W3 m ρ c (Proc.devRef .tc main_v4)) :=
    (W4_arr m ρ c 3).trans (second (V3 m ρ) c)
  have e6 : W5 m ρ c (Proc.devRef .tc main_v6) = shapeCast S4x159x1024x1 (W4 m ρ c (Proc.devRef .tc main_v5)) shapeCasts_S4x159x1024_S4x159x1024x1 := rfl
  rw [e6, e5, e4, e3, e2, e1, e0, W1_args m ρ c main_arg1 (by decide), W2_args m ρ c main_arg2 (by decide), W2_args m ρ c main_arg3 (by decide)]
  rfl

end Cert.KernelIdeal.Final

end
-- ==== Proof.Equal.lean ====
/- The kernel's result is the reference's, for entries that are real numbers. -/
module

public import proofs.«01_k».proof.Proof.Join
public import proofs.«01_k».proof.Proof.KValue
public import proofs.«01_k».proof.Proof.Norm
public import proofs.«01_k».proof.Proof.Runs
public import proofs.«01_k».proof.Proof.Final
public import Idealize.ShloMosaic.Lib.ReduceAll

@[expose] public section

set_option maxRecDepth 16384

noncomputable section

namespace Cert.Equal

open Idealize.ShloMosaic Idealize.SL.Sem
open Cert.KernelIdeal (S4x768x1024 S4x1024x768 S1024x768 S768x159 S159 S4x159x1024x1)
open Cert.KernelIdeal.Gen (k0_pay2)
open Cert.KernelIdeal.Final Cert.ReferenceIdeal.Block

/-- A batch's rows, as each side cuts them out. -/
theorem piece_parts (X : FVec Ideal S4x1024x768 .f32) : k0_pay2 (F := Ideal) (batchOf X 0) = part0 X ∧ k0_pay2 (F := Ideal) (batchOf X 1) = part1 X
    ∧ k0_pay2 (F := Ideal) (batchOf X 2) = part2 X ∧ k0_pay2 (F := Ideal) (batchOf X 3) = part3 X := by
  refine ⟨?_, ?_, ?_, ?_⟩ <;> funext j <;> idx_vars j
  · pointwise [k0_pay2, batchOf, part0]
  · pointwise [k0_pay2, batchOf, part1]
  · pointwise [k0_pay2, batchOf, part2]
  · pointwise [k0_pay2, batchOf, part3]

/-- A row of the stack is a row of its batch. -/
theorem stack_apply (X : FVec Ideal S4x1024x768 .f32) (w : FVec Ideal S768x159 .f32) (a : Fin 4) (i : Fin 1024) (j : Fin 159) :
    stack X w (ix2 ⟨a.val * 1024 + i.val, by omega⟩ j) = whole (k0_pay2 (F := Ideal) (batchOf X a)) w (ix2 i j) := by
  obtain ⟨e0, e1, e2, e3⟩ := piece_parts X
  pointwise [stack]
  fin_vals a with ha
  · obtain rfl : a = 0 := Fin.ext ha
    rw [dif_pos (by omega), e0]
    congr 2
    apply Fin.ext
    show 0 * 1024 + i.val = i.val
    omega
  · obtain rfl : a = 1 := Fin.ext ha
    rw [dif_neg (by omega), dif_pos (by omega), e1]
    congr 2
    apply Fin.ext
    show 1 * 1024 + i.val - 1024 = i.val
    omega
  · obtain rfl : a = 2 := Fin.ext ha
    rw [dif_neg (by omega), dif_neg (by omega), dif_pos (by omega), e2]
    congr 2
    apply Fin.ext
    show 2 * 1024 + i.val - 1024 - 1024 = i.val
    omega
  · obtain rfl : a = 3 := Fin.ext ha
    rw [dif_neg (by omega), dif_neg (by omega), dif_neg (by omega), e3]
    congr 2
    apply Fin.ext
    show 3 * 1024 + i.val - 1024 - 1024 - 1024 = i.val
    omega

/-- The kernel's stacked result is the reference's. -/
theorem convs_apply (X : FVec Ideal S4x1024x768 .f32) (w : FVec Ideal S768x159 .f32) (hX : ∀ a i k, ∃ r : ℝ, X (ix3 a i k) = (r : EReal))
    (a : Fin 4) (i : Fin 1024) (j : Fin 159) : convs X w (ix3 a i j) = stack X w (ix2 ⟨a.val * 1024 + i.val, by omega⟩ j) := by
  rw [stack_apply]
  refine Cert.Join.block_eq (batchOf X a) w (fun i k => ?_) i j
  obtain ⟨r, hr⟩ := hX a i k
  refine ⟨r, Eq.trans ?_ hr⟩
  pointwise [k0_pay2, batchOf]

/-- The reference's result from its arguments. -/
def target (x : FVec Ideal S4x768x1024 .f32) (w : FVec Ideal S768x159 .f32) (g b : FVec Ideal S159 .f32) : FVec Ideal S4x159x1024x1 .f32 :=
  Cert.ReferenceIdeal.Norm.norm (shapeCast S4x159x1024x1 (stack (shapeCast S4x1024x768 x Cert.ReferenceIdeal.Gen.shapeCasts_S4x768x1024_S4x1024x768) w)
    Cert.ReferenceIdeal.Gen.shapeCasts_S4096x159_S4x159x1024x1) g b

/-- The kernel's result is the reference's. -/
theorem result_eq (x : FVec Ideal S4x768x1024 .f32) (w : FVec Ideal S768x159 .f32) (g b : FVec Ideal S159 .f32)
    (hx : ∀ i, ∃ r : ℝ, x i = (r : EReal)) : result x w g b = target x w g b :=
  Cert.KernelIdeal.Norm.norm_eq _ _ g b fun a c n => Cert.KernelIdeal.Norm.regroup _ _ (convs_apply _ w fun _ _ _ => hx _) a c n

/-- The precondition says that every entry is a real number. -/
theorem real_of_pre (x : FVec Ideal S4x768x1024 .f32) (w : FVec Ideal S768x159 .f32) (g b : FVec Ideal S159 .f32)
    (h : Cert.Pre_finite_x.fn (F := Ideal) x w g b = fun _ => 1#1) (i : S4x768x1024.Idx) : ∃ r : ℝ, x i = (r : EReal) := by
  have h0 : Host.reduce IntOp.andi (cmpf .olt (Host.absf x) (broadcastInDim Cert.Pre_finite_x.S4x768x1024 ![] Cert.Pre_finite_x.Facts.bcast_S_S4x768x1024
      (constant (F := Ideal) Cert.Pre_finite_x.S_ .f32 0x7F800000#32))) (constantI Cert.Pre_finite_x.S_ 1 1#1)
      Cert.Pre_finite_x.Facts.reducesTo_S4x768x1024_S_d0_1_2 Cert.Pre_finite_x.Facts.h_S_ ix0 = 1#1 := congrFun h ix0
  have one : Subsingleton Cert.Pre_finite_x.S_.Idx := ⟨fun p q => funext fun b => b.elim0⟩
  have hi := Host.reduce_andi_all _ _ _ _ _ h0 i
  have e : BitVec.ofBool (decide (max (x i) (-(x i)) < Ideal.ofBits .f32 0x7F800000#32)) = 1#1 := hi
  rw [show Ideal.ofBits .f32 0x7F800000#32 = ⊤ by simp [Ideal.ofBits, Ideal.ieee], WordCmp.ofBool_decide_eq_one_iff] at e
  induction hv : x i using EReal.rec with
  | bot => simp [hv] at e
  | top => simp [hv] at e
  | coe r => exact ⟨r, rfl⟩

/-- The reference's run, its result named by that term. -/
theorem reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v256)
          = target (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  Cert.ReferenceIdeal.Final.run m ρ

end Cert.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Runs
public import proofs.«01_k».proof.Proof.Equal
public import Idealize.ShloMosaic.Adequacy
public import Idealize.ShloMosaic.Init

@[expose] public section

noncomputable section

namespace Cert.Proof

open Idealize.ShloMosaic Idealize.SL.Sem

/-- On entries that are real numbers, kernel and reference end with equal results. -/
theorem algebraic : Cert.algebraic_KernelIdeal_ReferenceIdeal_pre_finite_x := by
  intro m g m' g' hpre hargs
  refine ⟨fun c => Cert.KernelIdeal.Gen.W5 m g c (Proc.devRef .tc Cert.KernelIdeal.main_v6), Cert.KernelIdeal.Run.run m g, ?_⟩
  refine (θ_run _ _ _).mono (fun r h c => ⟨(h c).1.trans ?_, (h c).2⟩) (Cert.Equal.reference m' g')
  obtain ⟨h0, h1, h2, h3⟩ := hargs c
  rw [h0, h1, h2, h3]
  exact ((Cert.KernelIdeal.Final.final m g c).trans (Cert.Equal.result_eq _ _ _ _ (Cert.Equal.real_of_pre _ _ _ _ (hpre c)))).symm

/-- Everything the certificate claims. -/
theorem claim : Cert.Claim :=
  ⟨Cert.Kernel.Gen.facts, Cert.KernelIdeal.Gen.facts, Cert.ReferenceIdeal.Gen.facts, Cert.Pre_finite_x.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Final.frame m ρ, fun m ρ _ => Cert.ReferenceIdeal.Final.frame m ρ, trivial, algebraic⟩

end Cert.Proof

end
